-- ==== Defs.lean ====
def Pre_Kernel [hPre_in_table : Cert.Pre_in_table.Facts] (m : (ℓ : Loc Cert.Kernel.nD Cert.Kernel.τ Cert.Kernel.sig) → Buf (Elt Bits) ℓ) : Prop :=
  ∀ c : Dev Cert.Kernel.nD,
    (Cert.Pre_in_table.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_table : Cert.Pre_in_table.Facts] (m : (ℓ : Loc Cert.KernelIdeal.nD Cert.KernelIdeal.τ Cert.KernelIdeal.sig) → Buf (Elt Ideal) ℓ) : Prop :=
  ∀ c : Dev Cert.KernelIdeal.nD,
    (Cert.Pre_in_table.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_in_table : Cert.Pre_in_table.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_table.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_table : Cert.Pre_in_table.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] [hPre_in_table : Cert.Pre_in_table.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  IdealRules.named_const.Statement Cert.KernelIdeal.κ "width" .f32 0x40000000#32 ((33554431 / 16777216 : ℝ) : EReal)

def algebraic_KernelIdeal_ReferenceIdeal [hKernelIdeal : Cert.KernelIdeal.Facts] [hReferenceIdeal : Cert.ReferenceIdeal.Facts] [hPre_in_table : Cert.Pre_in_table.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v245) = v0 c
          ∧ r.2.mem ((c.tc : Thread Cert.ReferenceIdeal.nD Cert.ReferenceIdeal.τ).loc Cert.ReferenceIdeal.main_v236) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_table : Cert.Pre_in_table.Facts),
    quiescent_Kernel (hKernel := hKernel) (hPre_in_table := hPre_in_table)
    ∧ quiescent_KernelIdeal (hKernelIdeal := hKernelIdeal) (hPre_in_table := hPre_in_table)
    ∧ quiescent_ReferenceIdeal (hReferenceIdeal := hReferenceIdeal) (hPre_in_table := hPre_in_table)
    ∧ preserves_Kernel_KernelIdeal
    ∧ algebraic_KernelIdeal_ReferenceIdeal (hKernelIdeal := hKernelIdeal) (hReferenceIdeal := hReferenceIdeal) (hPre_in_table := hPre_in_table)
-- ==== Pre_in_table.lean ====
abbrev S128x3x224x224 : Shape := ⟨4, ![128, 3, 224, 224]⟩
abbrev S128 : Shape := ⟨1, ![128]⟩
abbrev S1000 : Shape := ⟨1, ![1000]⟩
abbrev S_ : Shape := ⟨0, ![]⟩

class Facts : Prop where
  bcast_S_S128 : S_.BroadcastsInDim S128 (![] : Fin 0 → Fin S128.rank)

variable [Facts]

def fn {F : FTy → Type} [FloatOps F] (main_arg0 : FVec F S128x3x224x224 .f32) (main_arg1 : IVec S128 32) (main_arg2 : FVec F S1000 .f32) (main_arg3 : FVec F S1000 .f32) : IVec S128 1 :=
  let main_c : IVec S_ 32 := constantI S_ 32 0#32
  let main_v0 : IVec S128 32 := broadcastInDim S128 ![] bcast_S_S128 main_c
  let main_v1 : IVec S128 1 := cmpi .sge main_arg1 main_v0
  let main_c_0 : IVec S_ 32 := constantI S_ 32 1000#32
  let main_v2 : IVec S128 32 := broadcastInDim S128 ![] bcast_S_S128 main_c_0
  let main_v3 : IVec S128 1 := cmpi .slt main_arg1 main_v2
  let main_v4 : IVec S128 1 := andi main_v1 main_v3
  main_v4
-- ==== Kernel.lean ====
abbrev S128x3x224x224 : Shape := ⟨4, ![128, 3, 224, 224]⟩
abbrev S128 : Shape := ⟨1, ![128]⟩
abbrev S1000 : Shape := ⟨1, ![1000]⟩
abbrev S128x1176x128 : Shape := ⟨3, ![128, 1176, 128]⟩
abbrev S4x1176x128 : Shape := ⟨3, ![4, 1176, 128]⟩
abbrev S1 : Shape := ⟨1, ![1]⟩
abbrev S1x1176x128 : Shape := ⟨3, ![1, 1176, 128]⟩
abbrev S1176x128 : Shape := ⟨2, ![1176, 128]⟩

abbrev nBuf : Space → Nat
  | .hbm => 9
  | .vmem => 6
  | .smem => 3
  | _ => 0

abbrev bufTy : (tb : Table) → Fin (tcTables nBuf tb) → BufTy
  | .hbm, ⟨0, _⟩ => ⟨S128x3x224x224, .f32⟩
  | .hbm, ⟨1, _⟩ => ⟨S128, .i32⟩
  | .hbm, ⟨2, _⟩ => ⟨S1000, .f32⟩
  | .hbm, ⟨3, _⟩ => ⟨S1000, .f32⟩
  | .hbm, ⟨4, _⟩ => ⟨S128x1176x128, .f32⟩
  | .hbm, ⟨5, _⟩ => ⟨S128x1176x128, .f32⟩
  | .hbm, ⟨6, _⟩ => ⟨S128x1176x128, .f32⟩
  | .hbm, ⟨7, _⟩ => ⟨S128x3x224x224, .f32⟩
  | .hbm, ⟨8, _⟩ => ⟨S128x3x224x224, .f32⟩
  | .local _ .vmem, ⟨0, _⟩ => ⟨S4x1176x128, .f32⟩
  | .local _ .vmem, ⟨1, _⟩ => ⟨S4x1176x128, .f32⟩
  | .local _ .vmem, ⟨2, _⟩ => ⟨S4x1176x128, .f32⟩
  | .local _ .vmem, ⟨3, _⟩ => ⟨S4x1176x128, .f32⟩
  | .local _ .vmem, ⟨4, _⟩ => ⟨S4x1176x128, .f32⟩
  | .local _ .vmem, ⟨5, _⟩ => ⟨S4x1176x128, .f32⟩
  | .local _ .smem, ⟨0, _⟩ => ⟨S128, .i32⟩
  | .local _ .smem, ⟨1, _⟩ => ⟨S1000, .f32⟩
  | .local _ .smem, ⟨2, _⟩ => ⟨S1000, .f32⟩
  | _, _ => ⟨S128x3x224x224, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | .smem, ⟨1, _⟩ => true
  | .smem, ⟨2, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v2 : Ref sig .tc := ⟨.hbm, 7, rfl⟩
abbrev main_v3 : Ref sig .tc := ⟨.hbm, 8, rfl⟩
abbrev cc0_stg3_0 : Ref sig .tc := ⟨.vmem, 0, rfl⟩
abbrev cc0_stg3_1 : Ref sig .tc := ⟨.vmem, 1, rfl⟩
abbrev cc0_stg4_0 : Ref sig .tc := ⟨.vmem, 2, rfl⟩
abbrev cc0_stg4_1 : Ref sig .tc := ⟨.vmem, 3, rfl⟩
abbrev cc0_stg5_0 : Ref sig .tc := ⟨.vmem, 4, rfl⟩
abbrev cc0_stg5_1 : Ref sig .tc := ⟨.vmem, 5, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_sem0_0 : DmaSem sig := 0
abbrev cc0_sem1_0 : DmaSem sig := 1
abbrev cc0_sem2_0 : DmaSem sig := 2
abbrev cc0_sem3_0 : DmaSem sig := 3
abbrev cc0_sem3_1 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨1, ![32], ![false]⟩

def k0_off1 (i : grid0.Coords) : Fin 1 → Nat :=
  let arg0 : BitVec 32 := BitVec.ofNat 32 (i 0).val
  let c4_i32_67 : BitVec 32 := 4#32
  let v257 : BitVec 32 := Scalar.muli arg0 c4_i32_67
  let c0_i32_68 : BitVec 32 := 0#32
  let v258 : BitVec 32 := Scalar.addi v257 c0_i32_68
  let v259 : Index := Scalar.indexCast v258
  ![v259.toNat]
def k0_off2 (v260 : BitVec 32) : Fin 1 → Nat :=
  let v261 : Index := Scalar.indexCast v260
  ![v261.toNat]

def k0_chk1 (v260 : BitVec 32) : Prop :=
  (∀ a, (k0_off2 v260) a + S1.size a ≤ S1000.size a)
theorem k0_off2_inb : ∀ (v260 : BitVec 32) (k0_hw1 : k0_chk1 v260), ∀ a, (k0_off2 v260) a + S1.size a ≤ S1000.size a := fun v260 k0_hw1 => k0_hw1

def k0_off3 (i : grid0.Coords) : Fin 1 → Nat :=
  let arg0 : BitVec 32 := BitVec.ofNat 32 (i 0).val
  let c4_i32_75 : BitVec 32 := 4#32
  let v277 : BitVec 32 := Scalar.muli arg0 c4_i32_75
  let c1_i32_76 : BitVec 32 := 1#32
  let v278 : BitVec 32 := Scalar.addi v277 c1_i32_76
  let v279 : Index := Scalar.indexCast v278
  ![v279.toNat]
def k0_off4 (v280 : BitVec 32) : Fin 1 → Nat :=
  let v281 : Index := Scalar.indexCast v280
  ![v281.toNat]

def k0_chk2 (v280 : BitVec 32) : Prop :=
  (∀ a, (k0_off4 v280) a + S1.size a ≤ S1000.size a)
theorem k0_off4_inb : ∀ (v280 : BitVec 32) (k0_hw2 : k0_chk2 v280), ∀ a, (k0_off4 v280) a + S1.size a ≤ S1000.size a := fun v280 k0_hw2 => k0_hw2

def k0_off5 (i : grid0.Coords) : Fin 1 → Nat :=
  let arg0 : BitVec 32 := BitVec.ofNat 32 (i 0).val
  let c4_i32_82 : BitVec 32 := 4#32
  let v297 : BitVec 32 := Scalar.muli arg0 c4_i32_82
  let c2_i32_83 : BitVec 32 := 2#32
  let v298 : BitVec 32 := Scalar.addi v297 c2_i32_83
  let v299 : Index := Scalar.indexCast v298
  ![v299.toNat]
def k0_off6 (v300 : BitVec 32) : Fin 1 → Nat :=
  let v301 : Index := Scalar.indexCast v300
  ![v301.toNat]

def k0_chk3 (v300 : BitVec 32) : Prop :=
  (∀ a, (k0_off6 v300) a + S1.size a ≤ S1000.size a)
theorem k0_off6_inb : ∀ (v300 : BitVec 32) (k0_hw3 : k0_chk3 v300), ∀ a, (k0_off6 v300) a + S1.size a ≤ S1000.size a := fun v300 k0_hw3 => k0_hw3

def k0_off7 (i : grid0.Coords) : Fin 1 → Nat :=
  let arg0 : BitVec 32 := BitVec.ofNat 32 (i 0).val
  let c4_i32_89 : BitVec 32 := 4#32
  let v317 : BitVec 32 := Scalar.muli arg0 c4_i32_89
  let c3_i32_90 : BitVec 32 := 3#32
  let v318 : BitVec 32 := Scalar.addi v317 c3_i32_90
  let v319 : Index := Scalar.indexCast v318
  ![v319.toNat]
def k0_off8 (v320 : BitVec 32) : Fin 1 → Nat :=
  let v321 : Index := Scalar.indexCast v320
  ![v321.toNat]

def k0_chk4 (v320 : BitVec 32) : Prop :=
  (∀ a, (k0_off8 v320) a + S1.size a ≤ S1000.size a)
theorem k0_off8_inb : ∀ (v320 : BitVec 32) (k0_hw4 : k0_chk4 v320), ∀ a, (k0_off8 v320) a + S1.size a ≤ S1000.size a := fun v320 k0_hw4 => k0_hw4

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S128 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S1000 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S1000 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x1176x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1176x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x1176x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== KernelIdeal.lean ====
variable {F : FTy → Type} [FloatOps F] [Named F]
def κ : String → Option EReal := fun
  | "width" => some ((33554431 / 16777216 : ℝ) : EReal)
  | _ => none
-- ==== ReferenceIdeal.lean ====
abbrev S128x3x224x224 : Shape := ⟨4, ![128, 3, 224, 224]⟩
abbrev S128 : Shape := ⟨1, ![128]⟩
abbrev S1000 : Shape := ⟨1, ![1000]⟩
abbrev S19267584 : Shape := ⟨1, ![19267584]⟩
abbrev S_ : Shape := ⟨0, ![]⟩
abbrev S128x1 : Shape := ⟨2, ![128, 1]⟩
abbrev S1 : Shape := ⟨1, ![1]⟩
abbrev S1x1 : Shape := ⟨2, ![1, 1]⟩
abbrev S128x1x1x1 : Shape := ⟨4, ![128, 1, 1, 1]⟩

abbrev nBuf : Space → Nat
  | .hbm => 394
  | .vmem => 0
  | .smem => 0
  | _ => 0

abbrev hbmTy0_0 (i : Nat) : BufTy := match i % 128 with
  | 0 => ⟨S128x3x224x224, .f32⟩
  | 1 => ⟨S128, .i32⟩
  | 2 => ⟨S1000, .f32⟩
  | 3 => ⟨S1000, .f32⟩
  | 4 => ⟨S19267584, .i32⟩
  | 5 => ⟨S128x3x224x224, .i32⟩
  | 6 => ⟨S_, .i32⟩
  | 7 => ⟨S128x3x224x224, .i32⟩
  | 8 => ⟨S_, .i32⟩
  | 9 => ⟨S128x3x224x224, .i32⟩
  | 10 => ⟨S128x3x224x224, .i32⟩
  | 11 => ⟨S_, .i32⟩
  | 12 => ⟨S128x3x224x224, .i32⟩
  | 13 => ⟨S128x3x224x224, .i32⟩
  | 14 => ⟨S128x3x224x224, .i32⟩
  | 15 => ⟨S_, .i32⟩
  | 16 => ⟨S128x3x224x224, .i32⟩
  | 17 => ⟨S128x3x224x224, .i32⟩
  | 18 => ⟨S_, .i32⟩
  | 19 => ⟨S128x3x224x224, .i32⟩
  | 20 => ⟨S128x3x224x224, .i32⟩
  | 21 => ⟨S128x3x224x224, .i32⟩
  | 22 => ⟨S128x3x224x224, .i32⟩
  | 23 => ⟨S128x3x224x224, .i32⟩
  | 24 => ⟨S_, .i32⟩
  | 25 => ⟨S128x3x224x224, .i32⟩
  | 26 => ⟨S128x3x224x224, .i32⟩
  | 27 => ⟨S_, .i32⟩
  | 28 => ⟨S128x3x224x224, .i32⟩
  | 29 => ⟨S128x3x224x224, .i32⟩
  | 30 => ⟨S128x3x224x224, .i32⟩
  | 31 => ⟨S128x3x224x224, .i32⟩
  | 32 => ⟨S128x3x224x224, .i32⟩
  | 33 => ⟨S_, .i32⟩
  | 34 => ⟨S128x3x224x224, .i32⟩
  | 35 => ⟨S128x3x224x224, .i32⟩
  | 36 => ⟨S_, .i32⟩
  | 37 => ⟨S128x3x224x224, .i32⟩
  | 38 => ⟨S128x3x224x224, .i32⟩
  | 39 => ⟨S128x3x224x224, .i32⟩
  | 40 => ⟨S128x3x224x224, .i32⟩
  | 41 => ⟨S128x3x224x224, .i32⟩
  | 42 => ⟨S_, .i32⟩
  | 43 => ⟨S128x3x224x224, .i32⟩
  | 44 => ⟨S128x3x224x224, .i32⟩
  | 45 => ⟨S_, .i32⟩
  | 46 => ⟨S128x3x224x224, .i32⟩
  | 47 => ⟨S128x3x224x224, .i32⟩
  | 48 => ⟨S128x3x224x224, .i32⟩
  | 49 => ⟨S128x3x224x224, .i32⟩
  | 50 => ⟨S_, .i32⟩
  | 51 => ⟨S128x3x224x224, .i32⟩
  | 52 => ⟨S128x3x224x224, .i32⟩
  | 53 => ⟨S_, .i32⟩
  | 54 => ⟨S128x3x224x224, .i32⟩
  | 55 => ⟨S128x3x224x224, .i32⟩
  | 56 => ⟨S128x3x224x224, .i32⟩
  | 57 => ⟨S_, .i32⟩
  | 58 => ⟨S128x3x224x224, .i32⟩
  | 59 => ⟨S128x3x224x224, .i32⟩
  | 60 => ⟨S_, .i32⟩
  | 61 => ⟨S128x3x224x224, .i32⟩
  | 62 => ⟨S128x3x224x224, .i32⟩
  | 63 => ⟨S128x3x224x224, .i32⟩
  | 64 => ⟨S128x3x224x224, .i32⟩
  | 65 => ⟨S128x3x224x224, .i32⟩
  | 66 => ⟨S_, .i32⟩
  | 67 => ⟨S128x3x224x224, .i32⟩
  | 68 => ⟨S128x3x224x224, .i32⟩
  | 69 => ⟨S_, .i32⟩
  | 70 => ⟨S128x3x224x224, .i32⟩
  | 71 => ⟨S128x3x224x224, .i32⟩
  | 72 => ⟨S128x3x224x224, .i32⟩
  | 73 => ⟨S128x3x224x224, .i32⟩
  | 74 => ⟨S128x3x224x224, .i32⟩
  | 75 => ⟨S_, .i32⟩
  | 76 => ⟨S128x3x224x224, .i32⟩
  | 77 => ⟨S128x3x224x224, .i32⟩
  | 78 => ⟨S_, .i32⟩
  | 79 => ⟨S128x3x224x224, .i32⟩
  | 80 => ⟨S128x3x224x224, .i32⟩
  | 81 => ⟨S128x3x224x224, .i32⟩
  | 82 => ⟨S128x3x224x224, .i32⟩
  | 83 => ⟨S128x3x224x224, .i32⟩
  | 84 => ⟨S_, .i32⟩
  | 85 => ⟨S128x3x224x224, .i32⟩
  | 86 => ⟨S128x3x224x224, .i32⟩
  | 87 => ⟨S_, .i32⟩
  | 88 => ⟨S128x3x224x224, .i32⟩
  | 89 => ⟨S128x3x224x224, .i32⟩
  | 90 => ⟨S128x3x224x224, .i32⟩
  | 91 => ⟨S128x3x224x224, .i32⟩
  | 92 => ⟨S_, .i32⟩
  | 93 => ⟨S128x3x224x224, .i32⟩
  | 94 => ⟨S128x3x224x224, .i32⟩
  | 95 => ⟨S_, .i32⟩
  | 96 => ⟨S128x3x224x224, .i32⟩
  | 97 => ⟨S128x3x224x224, .i32⟩
  | 98 => ⟨S128x3x224x224, .i32⟩
  | 99 => ⟨S_, .i32⟩
  | 100 => ⟨S128x3x224x224, .i32⟩
  | 101 => ⟨S128x3x224x224, .i32⟩
  | 102 => ⟨S_, .i32⟩
  | 103 => ⟨S128x3x224x224, .i32⟩
  | 104 => ⟨S128x3x224x224, .i32⟩
  | 105 => ⟨S128x3x224x224, .i32⟩
  | 106 => ⟨S128x3x224x224, .i32⟩
  | 107 => ⟨S128x3x224x224, .i32⟩
  | 108 => ⟨S_, .i32⟩
  | 109 => ⟨S128x3x224x224, .i32⟩
  | 110 => ⟨S128x3x224x224, .i32⟩
  | 111 => ⟨S_, .i32⟩
  | 112 => ⟨S128x3x224x224, .i32⟩
  | 113 => ⟨S128x3x224x224, .i32⟩
  | 114 => ⟨S128x3x224x224, .i32⟩
  | 115 => ⟨S128x3x224x224, .i32⟩
  | 116 => ⟨S128x3x224x224, .i32⟩
  | 117 => ⟨S_, .i32⟩
  | 118 => ⟨S128x3x224x224, .i32⟩
  | 119 => ⟨S128x3x224x224, .i32⟩
  | 120 => ⟨S_, .i32⟩
  | 121 => ⟨S128x3x224x224, .i32⟩
  | 122 => ⟨S128x3x224x224, .i32⟩
  | 123 => ⟨S128x3x224x224, .i32⟩
  | 124 => ⟨S128x3x224x224, .i32⟩
  | 125 => ⟨S128x3x224x224, .i32⟩
  | 126 => ⟨S_, .i32⟩
  | 127 => ⟨S128x3x224x224, .i32⟩
  | _ => ⟨S128x3x224x224, .f32⟩

abbrev hbmTy0_1 (i : Nat) : BufTy := match i % 128 with
  | 0 => ⟨S128x3x224x224, .i32⟩
  | 1 => ⟨S_, .i32⟩
  | 2 => ⟨S128x3x224x224, .i32⟩
  | 3 => ⟨S128x3x224x224, .i32⟩
  | 4 => ⟨S128x3x224x224, .i32⟩
  | 5 => ⟨S128x3x224x224, .i32⟩
  | 6 => ⟨S_, .i32⟩
  | 7 => ⟨S128x3x224x224, .i32⟩
  | 8 => ⟨S128x3x224x224, .i32⟩
  | 9 => ⟨S_, .i32⟩
  | 10 => ⟨S128x3x224x224, .i32⟩
  | 11 => ⟨S128x3x224x224, .i32⟩
  | 12 => ⟨S128x3x224x224, .i32⟩
  | 13 => ⟨S_, .i32⟩
  | 14 => ⟨S128x3x224x224, .i32⟩
  | 15 => ⟨S128x3x224x224, .i32⟩
  | 16 => ⟨S_, .i32⟩
  | 17 => ⟨S128x3x224x224, .i32⟩
  | 18 => ⟨S128x3x224x224, .i32⟩
  | 19 => ⟨S128x3x224x224, .i32⟩
  | 20 => ⟨S128x3x224x224, .i32⟩
  | 21 => ⟨S128x3x224x224, .i32⟩
  | 22 => ⟨S_, .i32⟩
  | 23 => ⟨S128x3x224x224, .i32⟩
  | 24 => ⟨S128x3x224x224, .i32⟩
  | 25 => ⟨S_, .i32⟩
  | 26 => ⟨S128x3x224x224, .i32⟩
  | 27 => ⟨S128x3x224x224, .i32⟩
  | 28 => ⟨S128x3x224x224, .i32⟩
  | 29 => ⟨S128x3x224x224, .i32⟩
  | 30 => ⟨S128x3x224x224, .i32⟩
  | 31 => ⟨S_, .i32⟩
  | 32 => ⟨S128x3x224x224, .i32⟩
  | 33 => ⟨S128x3x224x224, .i32⟩
  | 34 => ⟨S_, .i32⟩
  | 35 => ⟨S128x3x224x224, .i32⟩
  | 36 => ⟨S128x3x224x224, .i32⟩
  | 37 => ⟨S128x3x224x224, .i32⟩
  | 38 => ⟨S128x3x224x224, .i32⟩
  | 39 => ⟨S128x3x224x224, .i32⟩
  | 40 => ⟨S_, .i32⟩
  | 41 => ⟨S128x3x224x224, .i32⟩
  | 42 => ⟨S128x3x224x224, .i32⟩
  | 43 => ⟨S_, .i32⟩
  | 44 => ⟨S128x3x224x224, .i32⟩
  | 45 => ⟨S128x3x224x224, .i32⟩
  | 46 => ⟨S128x3x224x224, .i32⟩
  | 47 => ⟨S128x3x224x224, .i32⟩
  | 48 => ⟨S_, .i32⟩
  | 49 => ⟨S128x3x224x224, .i32⟩
  | 50 => ⟨S128x3x224x224, .i32⟩
  | 51 => ⟨S_, .i32⟩
  | 52 => ⟨S128x3x224x224, .i32⟩
  | 53 => ⟨S128x3x224x224, .i32⟩
  | 54 => ⟨S128x3x224x224, .i32⟩
  | 55 => ⟨S_, .i32⟩
  | 56 => ⟨S128x3x224x224, .i32⟩
  | 57 => ⟨S128x3x224x224, .i32⟩
  | 58 => ⟨S_, .i32⟩
  | 59 => ⟨S128x3x224x224, .i32⟩
  | 60 => ⟨S128x3x224x224, .i32⟩
  | 61 => ⟨S128x3x224x224, .i32⟩
  | 62 => ⟨S128x3x224x224, .i32⟩
  | 63 => ⟨S128x3x224x224, .i32⟩
  | 64 => ⟨S_, .i32⟩
  | 65 => ⟨S128x3x224x224, .i32⟩
  | 66 => ⟨S128x3x224x224, .i32⟩
  | 67 => ⟨S_, .i32⟩
  | 68 => ⟨S128x3x224x224, .i32⟩
  | 69 => ⟨S128x3x224x224, .i32⟩
  | 70 => ⟨S128x3x224x224, .i32⟩
  | 71 => ⟨S128x3x224x224, .i32⟩
  | 72 => ⟨S128x3x224x224, .i32⟩
  | 73 => ⟨S_, .i32⟩
  | 74 => ⟨S128x3x224x224, .i32⟩
  | 75 => ⟨S128x3x224x224, .i32⟩
  | 76 => ⟨S_, .i32⟩
  | 77 => ⟨S128x3x224x224, .i32⟩
  | 78 => ⟨S128x3x224x224, .i32⟩
  | 79 => ⟨S128x3x224x224, .i32⟩
  | 80 => ⟨S128x3x224x224, .i32⟩
  | 81 => ⟨S128x3x224x224, .i32⟩
  | 82 => ⟨S_, .i32⟩
  | 83 => ⟨S128x3x224x224, .i32⟩
  | 84 => ⟨S128x3x224x224, .i32⟩
  | 85 => ⟨S_, .i32⟩
  | 86 => ⟨S128x3x224x224, .i32⟩
  | 87 => ⟨S128x3x224x224, .i32⟩
  | 88 => ⟨S128x3x224x224, .i32⟩
  | 89 => ⟨S128x3x224x224, .i32⟩
  | 90 => ⟨S_, .i32⟩
  | 91 => ⟨S128x3x224x224, .i32⟩
  | 92 => ⟨S128x3x224x224, .i32⟩
  | 93 => ⟨S_, .i32⟩
  | 94 => ⟨S128x3x224x224, .i32⟩
  | 95 => ⟨S128x3x224x224, .i32⟩
  | 96 => ⟨S128x3x224x224, .i32⟩
  | 97 => ⟨S_, .i32⟩
  | 98 => ⟨S128x3x224x224, .i32⟩
  | 99 => ⟨S128x3x224x224, .i32⟩
  | 100 => ⟨S_, .i32⟩
  | 101 => ⟨S128x3x224x224, .i32⟩
  | 102 => ⟨S128x3x224x224, .i32⟩
  | 103 => ⟨S128x3x224x224, .f32⟩
  | 104 => ⟨S_, .f32⟩
  | 105 => ⟨S128x3x224x224, .f32⟩
  | 106 => ⟨S128x3x224x224, .f32⟩
  | 107 => ⟨S_, .f32⟩
  | 108 => ⟨S_, .f32⟩
  | 109 => ⟨S_, .f32⟩
  | 110 => ⟨S128x3x224x224, .f32⟩
  | 111 => ⟨S128x3x224x224, .f32⟩
  | 112 => ⟨S_, .f32⟩
  | 113 => ⟨S128x3x224x224, .f32⟩
  | 114 => ⟨S128x3x224x224, .f32⟩
  | 115 => ⟨S_, .f32⟩
  | 116 => ⟨S128x3x224x224, .f32⟩
  | 117 => ⟨S128x3x224x224, .f32⟩
  | 118 => ⟨S128x3x224x224, .f32⟩
  | 119 => ⟨S128x3x224x224, .f32⟩
  | 120 => ⟨S128x3x224x224, .f32⟩
  | 121 => ⟨S128x3x224x224, .f32⟩
  | 122 => ⟨S_, .f32⟩
  | 123 => ⟨S128x3x224x224, .f32⟩
  | 124 => ⟨S128x3x224x224, .i1⟩
  | 125 => ⟨S_, .f32⟩
  | 126 => ⟨S128x3x224x224, .f32⟩
  | 127 => ⟨S128x3x224x224, .f32⟩
  | _ => ⟨S128x3x224x224, .f32⟩

abbrev hbmTy0_2 (i : Nat) : BufTy := match i % 128 with
  | 0 => ⟨S128x3x224x224, .f32⟩
  | 1 => ⟨S_, .f32⟩
  | 2 => ⟨S128x3x224x224, .f32⟩
  | 3 => ⟨S128x3x224x224, .f32⟩
  | 4 => ⟨S128x3x224x224, .f32⟩
  | 5 => ⟨S_, .f32⟩
  | 6 => ⟨S_, .f32⟩
  | 7 => ⟨S128x3x224x224, .f32⟩
  | 8 => ⟨S128x3x224x224, .f32⟩
  | 9 => ⟨S128x3x224x224, .f32⟩
  | 10 => ⟨S_, .f32⟩
  | 11 => ⟨S_, .f32⟩
  | 12 => ⟨S128x3x224x224, .f32⟩
  | 13 => ⟨S128x3x224x224, .f32⟩
  | 14 => ⟨S128x3x224x224, .f32⟩
  | 15 => ⟨S128x3x224x224, .f32⟩
  | 16 => ⟨S128x3x224x224, .f32⟩
  | 17 => ⟨S128x3x224x224, .f32⟩
  | 18 => ⟨S128x3x224x224, .f32⟩
  | 19 => ⟨S_, .f32⟩
  | 20 => ⟨S_, .f32⟩
  | 21 => ⟨S128x3x224x224, .f32⟩
  | 22 => ⟨S128x3x224x224, .f32⟩
  | 23 => ⟨S128x3x224x224, .f32⟩
  | 24 => ⟨S128x3x224x224, .f32⟩
  | 25 => ⟨S128x3x224x224, .f32⟩
  | 26 => ⟨S128x3x224x224, .f32⟩
  | 27 => ⟨S_, .f32⟩
  | 28 => ⟨S_, .f32⟩
  | 29 => ⟨S128x3x224x224, .f32⟩
  | 30 => ⟨S128x3x224x224, .f32⟩
  | 31 => ⟨S128x3x224x224, .f32⟩
  | 32 => ⟨S128x3x224x224, .f32⟩
  | 33 => ⟨S128x3x224x224, .f32⟩
  | 34 => ⟨S128x3x224x224, .f32⟩
  | 35 => ⟨S_, .f32⟩
  | 36 => ⟨S_, .f32⟩
  | 37 => ⟨S128x3x224x224, .f32⟩
  | 38 => ⟨S128x3x224x224, .f32⟩
  | 39 => ⟨S128x3x224x224, .f32⟩
  | 40 => ⟨S128x3x224x224, .f32⟩
  | 41 => ⟨S128x3x224x224, .f32⟩
  | 42 => ⟨S128x3x224x224, .f32⟩
  | 43 => ⟨S_, .f32⟩
  | 44 => ⟨S_, .f32⟩
  | 45 => ⟨S128x3x224x224, .f32⟩
  | 46 => ⟨S128x3x224x224, .f32⟩
  | 47 => ⟨S128x3x224x224, .f32⟩
  | 48 => ⟨S128x3x224x224, .f32⟩
  | 49 => ⟨S128x3x224x224, .f32⟩
  | 50 => ⟨S128x3x224x224, .f32⟩
  | 51 => ⟨S_, .f32⟩
  | 52 => ⟨S_, .f32⟩
  | 53 => ⟨S128x3x224x224, .f32⟩
  | 54 => ⟨S128x3x224x224, .f32⟩
  | 55 => ⟨S128x3x224x224, .f32⟩
  | 56 => ⟨S128x3x224x224, .f32⟩
  | 57 => ⟨S128x3x224x224, .f32⟩
  | 58 => ⟨S128x3x224x224, .f32⟩
  | 59 => ⟨S_, .f32⟩
  | 60 => ⟨S_, .f32⟩
  | 61 => ⟨S128x3x224x224, .f32⟩
  | 62 => ⟨S128x3x224x224, .f32⟩
  | 63 => ⟨S128x3x224x224, .f32⟩
  | 64 => ⟨S128x3x224x224, .f32⟩
  | 65 => ⟨S128x3x224x224, .f32⟩
  | 66 => ⟨S128x3x224x224, .f32⟩
  | 67 => ⟨S_, .f32⟩
  | 68 => ⟨S_, .f32⟩
  | 69 => ⟨S128x3x224x224, .f32⟩
  | 70 => ⟨S128x3x224x224, .f32⟩
  | 71 => ⟨S128x3x224x224, .f32⟩
  | 72 => ⟨S128x3x224x224, .f32⟩
  | 73 => ⟨S128x3x224x224, .f32⟩
  | 74 => ⟨S128x3x224x224, .f32⟩
  | 75 => ⟨S128x3x224x224, .f32⟩
  | 76 => ⟨S_, .f32⟩
  | 77 => ⟨S128x3x224x224, .f32⟩
  | 78 => ⟨S128x3x224x224, .i1⟩
  | 79 => ⟨S_, .f32⟩
  | 80 => ⟨S128x3x224x224, .f32⟩
  | 81 => ⟨S128x3x224x224, .f32⟩
  | 82 => ⟨S128x3x224x224, .f32⟩
  | 83 => ⟨S128x3x224x224, .f32⟩
  | 84 => ⟨S_, .f32⟩
  | 85 => ⟨S128x3x224x224, .f32⟩
  | 86 => ⟨S128x3x224x224, .f32⟩
  | 87 => ⟨S_, .i32⟩
  | 88 => ⟨S128, .i32⟩
  | 89 => ⟨S128, .i1⟩
  | 90 => ⟨S_, .i32⟩
  | 91 => ⟨S128, .i32⟩
  | 92 => ⟨S128, .i32⟩
  | 93 => ⟨S128, .i32⟩
  | 94 => ⟨S128x1, .i32⟩
  | 95 => ⟨S1, .i32⟩
  | 96 => ⟨S_, .i32⟩
  | 97 => ⟨S128x1, .i32⟩
  | 98 => ⟨S128x1, .i1⟩
  | 99 => ⟨S1x1, .i32⟩
  | 100 => ⟨S128x1, .i32⟩
  | 101 => ⟨S128x1, .i1⟩
  | 102 => ⟨S128x1, .i1⟩
  | 103 => ⟨S_, .i1⟩
  | 104 => ⟨S128, .i1⟩
  | 105 => ⟨S128, .f32⟩
  | 106 => ⟨S_, .f32⟩
  | 107 => ⟨S128, .f32⟩
  | 108 => ⟨S128, .f32⟩
  | 109 => ⟨S128x1x1x1, .f32⟩
  | 110 => ⟨S_, .i32⟩
  | 111 => ⟨S128, .i32⟩
  | 112 => ⟨S128, .i1⟩
  | 113 => ⟨S_, .i32⟩
  | 114 => ⟨S128, .i32⟩
  | 115 => ⟨S128, .i32⟩
  | 116 => ⟨S128, .i32⟩
  | 117 => ⟨S128x1, .i32⟩
  | 118 => ⟨S1, .i32⟩
  | 119 => ⟨S_, .i32⟩
  | 120 => ⟨S128x1, .i32⟩
  | 121 => ⟨S128x1, .i1⟩
  | 122 => ⟨S1x1, .i32⟩
  | 123 => ⟨S128x1, .i32⟩
  | 124 => ⟨S128x1, .i1⟩
  | 125 => ⟨S128x1, .i1⟩
  | 126 => ⟨S_, .i1⟩
  | 127 => ⟨S128, .i1⟩
  | _ => ⟨S128x3x224x224, .f32⟩

abbrev hbmTy0_3 (i : Nat) : BufTy := match i % 128 with
  | 0 => ⟨S128, .f32⟩
  | 1 => ⟨S_, .f32⟩
  | 2 => ⟨S128, .f32⟩
  | 3 => ⟨S128, .f32⟩
  | 4 => ⟨S128x1x1x1, .f32⟩
  | 5 => ⟨S128x3x224x224, .f32⟩
  | 6 => ⟨S128x3x224x224, .f32⟩
  | 7 => ⟨S128x3x224x224, .f32⟩
  | 8 => ⟨S128x3x224x224, .f32⟩
  | 9 => ⟨S128x3x224x224, .f32⟩
  | _ => ⟨S128x3x224x224, .f32⟩

abbrev hbmTy (i : Nat) : BufTy := match i / 128 with
  | 0 => hbmTy0_0 i
  | 1 => hbmTy0_1 i
  | 2 => hbmTy0_2 i
  | 3 => hbmTy0_3 i
  | _ => ⟨S128x3x224x224, .f32⟩

abbrev bufTy : (tb : Table) → Fin (tcTables nBuf tb) → BufTy
  | .hbm, ⟨i, _⟩ => hbmTy i
  | _, _ => ⟨S128x3x224x224, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_v2 : Ref sig .tc := ⟨.hbm, 7, rfl⟩
abbrev main_c_0 : Ref sig .tc := ⟨.hbm, 8, rfl⟩
abbrev main_v3 : Ref sig .tc := ⟨.hbm, 9, rfl⟩
abbrev main_v4 : Ref sig .tc := ⟨.hbm, 10, rfl⟩
abbrev main_c_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_2 : Ref sig .tc := ⟨.hbm, 15, rfl⟩
abbrev main_v8 : Ref sig .tc := ⟨.hbm, 16, rfl⟩
abbrev main_v9 : Ref sig .tc := ⟨.hbm, 17, rfl⟩
abbrev main_c_3 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_c_4 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_6 : Ref sig .tc := ⟨.hbm, 33, rfl⟩
abbrev main_v22 : Ref sig .tc := ⟨.hbm, 34, rfl⟩
abbrev main_v23 : Ref sig .tc := ⟨.hbm, 35, rfl⟩
abbrev main_c_7 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_c_8 : Ref sig .tc := ⟨.hbm, 42, rfl⟩
abbrev main_v29 : Ref sig .tc := ⟨.hbm, 43, rfl⟩
abbrev main_v30 : Ref sig .tc := ⟨.hbm, 44, rfl⟩
abbrev main_c_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c_10 : Ref sig .tc := ⟨.hbm, 50, rfl⟩
abbrev main_v35 : Ref sig .tc := ⟨.hbm, 51, rfl⟩
abbrev main_v36 : Ref sig .tc := ⟨.hbm, 52, rfl⟩
abbrev main_c_11 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_c_12 : Ref sig .tc := ⟨.hbm, 57, rfl⟩
abbrev main_v40 : Ref sig .tc := ⟨.hbm, 58, rfl⟩
abbrev main_v41 : Ref sig .tc := ⟨.hbm, 59, rfl⟩
abbrev main_c_13 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_c_14 : Ref sig .tc := ⟨.hbm, 66, rfl⟩
abbrev main_v47 : Ref sig .tc := ⟨.hbm, 67, rfl⟩
abbrev main_v48 : Ref sig .tc := ⟨.hbm, 68, rfl⟩
abbrev main_c_15 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_c_16 : Ref sig .tc := ⟨.hbm, 75, rfl⟩
abbrev main_v54 : Ref sig .tc := ⟨.hbm, 76, rfl⟩
abbrev main_v55 : Ref sig .tc := ⟨.hbm, 77, rfl⟩
abbrev main_c_17 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_v60 : Ref sig .tc := ⟨.hbm, 83, rfl⟩
abbrev main_c_18 : Ref sig .tc := ⟨.hbm, 84, rfl⟩
abbrev main_v61 : Ref sig .tc := ⟨.hbm, 85, rfl⟩
abbrev main_v62 : Ref sig .tc := ⟨.hbm, 86, rfl⟩
abbrev main_c_19 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_20 : Ref sig .tc := ⟨.hbm, 92, rfl⟩
abbrev main_v67 : Ref sig .tc := ⟨.hbm, 93, rfl⟩
abbrev main_v68 : Ref sig .tc := ⟨.hbm, 94, rfl⟩
abbrev main_c_21 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_c_22 : Ref sig .tc := ⟨.hbm, 99, rfl⟩
abbrev main_v72 : Ref sig .tc := ⟨.hbm, 100, rfl⟩
abbrev main_v73 : Ref sig .tc := ⟨.hbm, 101, rfl⟩
abbrev main_c_23 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_v78 : Ref sig .tc := ⟨.hbm, 107, rfl⟩
abbrev main_c_24 : Ref sig .tc := ⟨.hbm, 108, rfl⟩
abbrev main_v79 : Ref sig .tc := ⟨.hbm, 109, rfl⟩
abbrev main_v80 : Ref sig .tc := ⟨.hbm, 110, rfl⟩
abbrev main_c_25 : Ref sig .tc := ⟨.hbm, 111, rfl⟩
abbrev main_v81 : Ref sig .tc := ⟨.hbm, 112, rfl⟩
abbrev main_v82 : Ref sig .tc := ⟨.hbm, 113, rfl⟩
abbrev main_v83 : Ref sig .tc := ⟨.hbm, 114, rfl⟩
abbrev main_v84 : Ref sig .tc := ⟨.hbm, 115, rfl⟩
abbrev main_v85 : Ref sig .tc := ⟨.hbm, 116, rfl⟩
abbrev main_c_26 : Ref sig .tc := ⟨.hbm, 117, rfl⟩
abbrev main_v86 : Ref sig .tc := ⟨.hbm, 118, rfl⟩
abbrev main_v87 : Ref sig .tc := ⟨.hbm, 119, rfl⟩
abbrev main_c_27 : Ref sig .tc := ⟨.hbm, 120, rfl⟩
abbrev main_v88 : Ref sig .tc := ⟨.hbm, 121, rfl⟩
abbrev main_v89 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_c_28 : Ref sig .tc := ⟨.hbm, 126, rfl⟩
abbrev main_v93 : Ref sig .tc := ⟨.hbm, 127, rfl⟩
abbrev main_v94 : Ref sig .tc := ⟨.hbm, 128, rfl⟩
abbrev main_c_29 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_v98 : Ref sig .tc := ⟨.hbm, 133, rfl⟩
abbrev main_c_30 : Ref sig .tc := ⟨.hbm, 134, rfl⟩
abbrev main_v99 : Ref sig .tc := ⟨.hbm, 135, rfl⟩
abbrev main_v100 : Ref sig .tc := ⟨.hbm, 136, rfl⟩
abbrev main_c_31 : Ref sig .tc := ⟨.hbm, 137, rfl⟩
abbrev main_v101 : Ref sig .tc := ⟨.hbm, 138, rfl⟩
abbrev main_v102 : Ref sig .tc := ⟨.hbm, 139, rfl⟩
abbrev main_v103 : Ref sig .tc := ⟨.hbm, 140, rfl⟩
abbrev main_c_32 : Ref sig .tc := ⟨.hbm, 141, rfl⟩
abbrev main_v104 : Ref sig .tc := ⟨.hbm, 142, rfl⟩
abbrev main_v105 : Ref sig .tc := ⟨.hbm, 143, rfl⟩
abbrev main_c_33 : Ref sig .tc := ⟨.hbm, 144, rfl⟩
abbrev main_v106 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_c_34 : Ref sig .tc := ⟨.hbm, 150, rfl⟩
abbrev main_v111 : Ref sig .tc := ⟨.hbm, 151, rfl⟩
abbrev main_v112 : Ref sig .tc := ⟨.hbm, 152, rfl⟩
abbrev main_c_35 : Ref sig .tc := ⟨.hbm, 153, rfl⟩
abbrev main_v113 : Ref sig .tc := ⟨.hbm, 154, rfl⟩
abbrev main_v114 : Ref sig .tc := ⟨.hbm, 155, rfl⟩
abbrev main_v115 : Ref sig .tc := ⟨.hbm, 156, rfl⟩
abbrev main_v116 : Ref sig .tc := ⟨.hbm, 157, rfl⟩
abbrev main_v117 : Ref sig .tc := ⟨.hbm, 158, rfl⟩
abbrev main_c_36 : Ref sig .tc := ⟨.hbm, 159, rfl⟩
abbrev main_v118 : Ref sig .tc := ⟨.hbm, 160, rfl⟩
abbrev main_v119 : Ref sig .tc := ⟨.hbm, 161, rfl⟩
abbrev main_c_37 : Ref sig .tc := ⟨.hbm, 162, rfl⟩
abbrev main_v120 : Ref sig .tc := ⟨.hbm, 163, rfl⟩
abbrev main_v121 : Ref sig .tc := ⟨.hbm, 164, rfl⟩
abbrev main_v122 : Ref sig .tc := ⟨.hbm, 165, rfl⟩
abbrev main_v123 : Ref sig .tc := ⟨.hbm, 166, rfl⟩
abbrev main_v124 : Ref sig .tc := ⟨.hbm, 167, rfl⟩
abbrev main_c_38 : Ref sig .tc := ⟨.hbm, 168, rfl⟩
abbrev main_v125 : Ref sig .tc := ⟨.hbm, 169, rfl⟩
abbrev main_v126 : Ref sig .tc := ⟨.hbm, 170, rfl⟩
abbrev main_c_39 : Ref sig .tc := ⟨.hbm, 171, rfl⟩
abbrev main_v127 : Ref sig .tc := ⟨.hbm, 172, rfl⟩
abbrev main_v128 : Ref sig .tc := ⟨.hbm, 173, rfl⟩
abbrev main_v129 : Ref sig .tc := ⟨.hbm, 174, rfl⟩
abbrev main_v130 : Ref sig .tc := ⟨.hbm, 175, rfl⟩
abbrev main_c_40 : Ref sig .tc := ⟨.hbm, 176, rfl⟩
abbrev main_v131 : Ref sig .tc := ⟨.hbm, 177, rfl⟩
abbrev main_v132 : Ref sig .tc := ⟨.hbm, 178, rfl⟩
abbrev main_c_41 : Ref sig .tc := ⟨.hbm, 179, rfl⟩
abbrev main_v133 : Ref sig .tc := ⟨.hbm, 180, rfl⟩
abbrev main_v134 : Ref sig .tc := ⟨.hbm, 181, rfl⟩
abbrev main_v135 : Ref sig .tc := ⟨.hbm, 182, rfl⟩
abbrev main_c_42 : Ref sig .tc := ⟨.hbm, 183, rfl⟩
abbrev main_v136 : Ref sig .tc := ⟨.hbm, 184, rfl⟩
abbrev main_v137 : Ref sig .tc := ⟨.hbm, 185, rfl⟩
abbrev main_c_43 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_v141 : Ref sig .tc := ⟨.hbm, 190, rfl⟩
abbrev main_v142 : Ref sig .tc := ⟨.hbm, 191, rfl⟩
abbrev main_c_44 : Ref sig .tc := ⟨.hbm, 192, rfl⟩
abbrev main_v143 : Ref sig .tc := ⟨.hbm, 193, rfl⟩
abbrev main_v144 : Ref sig .tc := ⟨.hbm, 194, rfl⟩
abbrev main_c_45 : Ref sig .tc := ⟨.hbm, 195, rfl⟩
abbrev main_v145 : Ref sig .tc := ⟨.hbm, 196, rfl⟩
abbrev main_v146 : Ref sig .tc := ⟨.hbm, 197, rfl⟩
abbrev main_v147 : Ref sig .tc := ⟨.hbm, 198, rfl⟩
abbrev main_v148 : Ref sig .tc := ⟨.hbm, 199, rfl⟩
abbrev main_v149 : Ref sig .tc := ⟨.hbm, 200, rfl⟩
abbrev main_c_46 : Ref sig .tc := ⟨.hbm, 201, rfl⟩
abbrev main_v150 : Ref sig .tc := ⟨.hbm, 202, rfl⟩
abbrev main_v151 : Ref sig .tc := ⟨.hbm, 203, rfl⟩
abbrev main_c_47 : Ref sig .tc := ⟨.hbm, 204, rfl⟩
abbrev main_v152 : Ref sig .tc := ⟨.hbm, 205, rfl⟩
abbrev main_v153 : Ref sig .tc := ⟨.hbm, 206, rfl⟩
abbrev main_v154 : Ref sig .tc := ⟨.hbm, 207, rfl⟩
abbrev main_v155 : Ref sig .tc := ⟨.hbm, 208, rfl⟩
abbrev main_v156 : Ref sig .tc := ⟨.hbm, 209, rfl⟩
abbrev main_c_48 : Ref sig .tc := ⟨.hbm, 210, rfl⟩
abbrev main_v157 : Ref sig .tc := ⟨.hbm, 211, rfl⟩
abbrev main_v158 : Ref sig .tc := ⟨.hbm, 212, rfl⟩
abbrev main_c_49 : Ref sig .tc := ⟨.hbm, 213, rfl⟩
abbrev main_v159 : Ref sig .tc := ⟨.hbm, 214, rfl⟩
abbrev main_v160 : Ref sig .tc := ⟨.hbm, 215, rfl⟩
abbrev main_v161 : Ref sig .tc := ⟨.hbm, 216, rfl⟩
abbrev main_v162 : Ref sig .tc := ⟨.hbm, 217, rfl⟩
abbrev main_c_50 : Ref sig .tc := ⟨.hbm, 218, rfl⟩
abbrev main_v163 : Ref sig .tc := ⟨.hbm, 219, rfl⟩
abbrev main_v164 : Ref sig .tc := ⟨.hbm, 220, rfl⟩
abbrev main_c_51 : Ref sig .tc := ⟨.hbm, 221, rfl⟩
abbrev main_v165 : Ref sig .tc := ⟨.hbm, 222, rfl⟩
abbrev main_v166 : Ref sig .tc := ⟨.hbm, 223, rfl⟩
abbrev main_v167 : Ref sig .tc := ⟨.hbm, 224, rfl⟩
abbrev main_c_52 : Ref sig .tc := ⟨.hbm, 225, rfl⟩
abbrev main_v168 : Ref sig .tc := ⟨.hbm, 226, rfl⟩
abbrev main_v169 : Ref sig .tc := ⟨.hbm, 227, rfl⟩
abbrev main_c_53 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_cst : Ref sig .tc := ⟨.hbm, 232, rfl⟩
abbrev main_v173 : Ref sig .tc := ⟨.hbm, 233, rfl⟩
abbrev main_v174 : Ref sig .tc := ⟨.hbm, 234, rfl⟩
abbrev main_cst_54 : Ref sig .tc := ⟨.hbm, 235, rfl⟩
abbrev main_cst_55 : Ref sig .tc := ⟨.hbm, 236, rfl⟩
abbrev main_v175 : Ref sig .tc := ⟨.hbm, 237, rfl⟩
abbrev main_v176 : Ref sig .tc := ⟨.hbm, 238, rfl⟩
abbrev main_v177 : Ref sig .tc := ⟨.hbm, 239, rfl⟩
abbrev main_cst_56 : Ref sig .tc := ⟨.hbm, 240, rfl⟩
abbrev main_v178 : Ref sig .tc := ⟨.hbm, 241, rfl⟩
abbrev main_v179 : Ref sig .tc := ⟨.hbm, 242, rfl⟩
abbrev main_cst_57 : Ref sig .tc := ⟨.hbm, 243, rfl⟩
abbrev main_v180 : Ref sig .tc := ⟨.hbm, 244, rfl⟩
abbrev main_v181 : Ref sig .tc := ⟨.hbm, 245, rfl⟩
abbrev main_v182 : Ref sig .tc := ⟨.hbm, 246, rfl⟩
abbrev main_v183 : Ref sig .tc := ⟨.hbm, 247, rfl⟩
abbrev main_v184 : Ref sig .tc := ⟨.hbm, 248, rfl⟩
abbrev main_v185 : Ref sig .tc := ⟨.hbm, 249, rfl⟩
abbrev main_cst_58 : Ref sig .tc := ⟨.hbm, 250, rfl⟩
abbrev main_v186 : Ref sig .tc := ⟨.hbm, 251, rfl⟩
abbrev main_v187 : Ref sig .tc := ⟨.hbm, 252, rfl⟩
abbrev main_cst_59 : Ref sig .tc := ⟨.hbm, 253, rfl⟩
abbrev main_v188 : Ref sig .tc := ⟨.hbm, 254, rfl⟩
abbrev main_v189 : Ref sig .tc := ⟨.hbm, 255, rfl⟩
abbrev main_v190 : Ref sig .tc := ⟨.hbm, 256, rfl⟩
abbrev main_cst_60 : Ref sig .tc := ⟨.hbm, 257, rfl⟩
abbrev main_v191 : Ref sig .tc := ⟨.hbm, 258, rfl⟩
abbrev main_v192 : Ref sig .tc := ⟨.hbm, 259, rfl⟩
abbrev main_v193 : Ref sig .tc := ⟨.hbm, 260, rfl⟩
abbrev main_cst_61 : Ref sig .tc := ⟨.hbm, 261, rfl⟩
abbrev main_cst_62 : Ref sig .tc := ⟨.hbm, 262, rfl⟩
abbrev main_call1_v0 : Ref sig .tc := ⟨.hbm, 263, rfl⟩
abbrev main_call1_v1 : Ref sig .tc := ⟨.hbm, 264, rfl⟩
abbrev main_v194 : Ref sig .tc := ⟨.hbm, 265, rfl⟩
abbrev main_cst_63 : Ref sig .tc := ⟨.hbm, 266, rfl⟩
abbrev main_cst_64 : Ref sig .tc := ⟨.hbm, 267, rfl⟩
abbrev main_call2_v0 : Ref sig .tc := ⟨.hbm, 268, rfl⟩
abbrev main_call2_v1 : Ref sig .tc := ⟨.hbm, 269, rfl⟩
abbrev main_v195 : Ref sig .tc := ⟨.hbm, 270, rfl⟩
abbrev main_v196 : Ref sig .tc := ⟨.hbm, 271, rfl⟩
abbrev main_v197 : Ref sig .tc := ⟨.hbm, 272, rfl⟩
abbrev main_v198 : Ref sig .tc := ⟨.hbm, 273, rfl⟩
abbrev main_v199 : Ref sig .tc := ⟨.hbm, 274, rfl⟩
abbrev main_cst_65 : Ref sig .tc := ⟨.hbm, 275, rfl⟩
abbrev main_cst_66 : Ref sig .tc := ⟨.hbm, 276, rfl⟩
abbrev main_call3_v0 : Ref sig .tc := ⟨.hbm, 277, rfl⟩
abbrev main_call3_v1 : Ref sig .tc := ⟨.hbm, 278, rfl⟩
abbrev main_v200 : Ref sig .tc := ⟨.hbm, 279, rfl⟩
abbrev main_v201 : Ref sig .tc := ⟨.hbm, 280, rfl⟩
abbrev main_v202 : Ref sig .tc := ⟨.hbm, 281, rfl⟩
abbrev main_v203 : Ref sig .tc := ⟨.hbm, 282, rfl⟩
abbrev main_cst_67 : Ref sig .tc := ⟨.hbm, 283, rfl⟩
abbrev main_cst_68 : Ref sig .tc := ⟨.hbm, 284, rfl⟩
abbrev main_call4_v0 : Ref sig .tc := ⟨.hbm, 285, rfl⟩
abbrev main_call4_v1 : Ref sig .tc := ⟨.hbm, 286, rfl⟩
abbrev main_v204 : Ref sig .tc := ⟨.hbm, 287, rfl⟩
abbrev main_v205 : Ref sig .tc := ⟨.hbm, 288, rfl⟩
abbrev main_v206 : Ref sig .tc := ⟨.hbm, 289, rfl⟩
abbrev main_v207 : Ref sig .tc := ⟨.hbm, 290, rfl⟩
abbrev main_cst_69 : Ref sig .tc := ⟨.hbm, 291, rfl⟩
abbrev main_cst_70 : Ref sig .tc := ⟨.hbm, 292, rfl⟩
abbrev main_call5_v0 : Ref sig .tc := ⟨.hbm, 293, rfl⟩
abbrev main_call5_v1 : Ref sig .tc := ⟨.hbm, 294, rfl⟩
abbrev main_v208 : Ref sig .tc := ⟨.hbm, 295, rfl⟩
abbrev main_v209 : Ref sig .tc := ⟨.hbm, 296, rfl⟩
abbrev main_v210 : Ref sig .tc := ⟨.hbm, 297, rfl⟩
abbrev main_v211 : Ref sig .tc := ⟨.hbm, 298, rfl⟩
abbrev main_cst_71 : Ref sig .tc := ⟨.hbm, 299, rfl⟩
abbrev main_cst_72 : Ref sig .tc := ⟨.hbm, 300, rfl⟩
abbrev main_call6_v0 : Ref sig .tc := ⟨.hbm, 301, rfl⟩
abbrev main_call6_v1 : Ref sig .tc := ⟨.hbm, 302, rfl⟩
abbrev main_v212 : Ref sig .tc := ⟨.hbm, 303, rfl⟩
abbrev main_v213 : Ref sig .tc := ⟨.hbm, 304, rfl⟩
abbrev main_v214 : Ref sig .tc := ⟨.hbm, 305, rfl⟩
abbrev main_v215 : Ref sig .tc := ⟨.hbm, 306, rfl⟩
abbrev main_cst_73 : Ref sig .tc := ⟨.hbm, 307, rfl⟩
abbrev main_cst_74 : Ref sig .tc := ⟨.hbm, 308, rfl⟩
abbrev main_call7_v0 : Ref sig .tc := ⟨.hbm, 309, rfl⟩
abbrev main_call7_v1 : Ref sig .tc := ⟨.hbm, 310, rfl⟩
abbrev main_v216 : Ref sig .tc := ⟨.hbm, 311, rfl⟩
abbrev main_v217 : Ref sig .tc := ⟨.hbm, 312, rfl⟩
abbrev main_v218 : Ref sig .tc := ⟨.hbm, 313, rfl⟩
abbrev main_v219 : Ref sig .tc := ⟨.hbm, 314, rfl⟩
abbrev main_cst_75 : Ref sig .tc := ⟨.hbm, 315, rfl⟩
abbrev main_cst_76 : Ref sig .tc := ⟨.hbm, 316, rfl⟩
abbrev main_call8_v0 : Ref sig .tc := ⟨.hbm, 317, rfl⟩
abbrev main_call8_v1 : Ref sig .tc := ⟨.hbm, 318, rfl⟩
abbrev main_v220 : Ref sig .tc := ⟨.hbm, 319, rfl⟩
abbrev main_v221 : Ref sig .tc := ⟨.hbm, 320, rfl⟩
abbrev main_v222 : Ref sig .tc := ⟨.hbm, 321, rfl⟩
abbrev main_v223 : Ref sig .tc := ⟨.hbm, 322, rfl⟩
abbrev main_cst_77 : Ref sig .tc := ⟨.hbm, 323, rfl⟩
abbrev main_cst_78 : Ref sig .tc := ⟨.hbm, 324, rfl⟩
abbrev main_call9_v0 : Ref sig .tc := ⟨.hbm, 325, rfl⟩
abbrev main_call9_v1 : Ref sig .tc := ⟨.hbm, 326, rfl⟩
abbrev main_v224 : Ref sig .tc := ⟨.hbm, 327, rfl⟩
abbrev main_v225 : Ref sig .tc := ⟨.hbm, 328, rfl⟩
abbrev main_v226 : Ref sig .tc := ⟨.hbm, 329, rfl⟩
abbrev main_v227 : Ref sig .tc := ⟨.hbm, 330, rfl⟩
abbrev main_v228 : Ref sig .tc := ⟨.hbm, 331, rfl⟩
abbrev main_cst_79 : Ref sig .tc := ⟨.hbm, 332, rfl⟩
abbrev main_v229 : Ref sig .tc := ⟨.hbm, 333, rfl⟩
abbrev main_v230 : Ref sig .tc := ⟨.hbm, 334, rfl⟩
abbrev main_cst_80 : Ref sig .tc := ⟨.hbm, 335, rfl⟩
abbrev main_v231 : Ref sig .tc := ⟨.hbm, 336, rfl⟩
abbrev main_v232 : Ref sig .tc := ⟨.hbm, 337, rfl⟩
abbrev main_v233 : Ref sig .tc := ⟨.hbm, 338, rfl⟩
abbrev main_v234 : Ref sig .tc := ⟨.hbm, 339, rfl⟩
abbrev main_cst_81 : Ref sig .tc := ⟨.hbm, 340, rfl⟩
abbrev main_v235 : Ref sig .tc := ⟨.hbm, 341, rfl⟩
abbrev main_v236 : Ref sig .tc := ⟨.hbm, 342, rfl⟩
abbrev main_call11_c : Ref sig .tc := ⟨.hbm, 343, rfl⟩
abbrev main_call11_v0 : Ref sig .tc := ⟨.hbm, 344, rfl⟩
abbrev main_call11_v1 : Ref sig .tc := ⟨.hbm, 345, rfl⟩
abbrev main_call11_c_0 : Ref sig .tc := ⟨.hbm, 346, rfl⟩
abbrev main_call11_v2 : Ref sig .tc := ⟨.hbm, 347, rfl⟩
abbrev main_call11_v3 : Ref sig .tc := ⟨.hbm, 348, rfl⟩
abbrev main_call11_v4 : Ref sig .tc := ⟨.hbm, 349, rfl⟩
abbrev main_call11_v5 : Ref sig .tc := ⟨.hbm, 350, rfl⟩
abbrev main_call11_c_1 : Ref sig .tc := ⟨.hbm, 351, rfl⟩
abbrev main_call11_c_2 : Ref sig .tc := ⟨.hbm, 352, rfl⟩
abbrev main_call11_v6 : Ref sig .tc := ⟨.hbm, 353, rfl⟩
abbrev main_call11_v7 : Ref sig .tc := ⟨.hbm, 354, rfl⟩
abbrev main_call11_v8 : Ref sig .tc := ⟨.hbm, 355, rfl⟩
abbrev main_call11_v9 : Ref sig .tc := ⟨.hbm, 356, rfl⟩
abbrev main_call11_v10 : Ref sig .tc := ⟨.hbm, 357, rfl⟩
abbrev main_call11_v11 : Ref sig .tc := ⟨.hbm, 358, rfl⟩
abbrev main_call11_c_3 : Ref sig .tc := ⟨.hbm, 359, rfl⟩
abbrev main_call11_v12 : Ref sig .tc := ⟨.hbm, 360, rfl⟩
abbrev main_call11_v13 : Ref sig .tc := ⟨.hbm, 361, rfl⟩
abbrev main_call11_cst : Ref sig .tc := ⟨.hbm, 362, rfl⟩
abbrev main_call11_v14 : Ref sig .tc := ⟨.hbm, 363, rfl⟩
abbrev main_v237 : Ref sig .tc := ⟨.hbm, 364, rfl⟩
abbrev main_v238 : Ref sig .tc := ⟨.hbm, 365, rfl⟩
abbrev main_call12_c : Ref sig .tc := ⟨.hbm, 366, rfl⟩
abbrev main_call12_v0 : Ref sig .tc := ⟨.hbm, 367, rfl⟩
abbrev main_call12_v1 : Ref sig .tc := ⟨.hbm, 368, rfl⟩
abbrev main_call12_c_0 : Ref sig .tc := ⟨.hbm, 369, rfl⟩
abbrev main_call12_v2 : Ref sig .tc := ⟨.hbm, 370, rfl⟩
abbrev main_call12_v3 : Ref sig .tc := ⟨.hbm, 371, rfl⟩
abbrev main_call12_v4 : Ref sig .tc := ⟨.hbm, 372, rfl⟩
abbrev main_call12_v5 : Ref sig .tc := ⟨.hbm, 373, rfl⟩
abbrev main_call12_c_1 : Ref sig .tc := ⟨.hbm, 374, rfl⟩
abbrev main_call12_c_2 : Ref sig .tc := ⟨.hbm, 375, rfl⟩
abbrev main_call12_v6 : Ref sig .tc := ⟨.hbm, 376, rfl⟩
abbrev main_call12_v7 : Ref sig .tc := ⟨.hbm, 377, rfl⟩
abbrev main_call12_v8 : Ref sig .tc := ⟨.hbm, 378, rfl⟩
abbrev main_call12_v9 : Ref sig .tc := ⟨.hbm, 379, rfl⟩
abbrev main_call12_v10 : Ref sig .tc := ⟨.hbm, 380, rfl⟩
abbrev main_call12_v11 : Ref sig .tc := ⟨.hbm, 381, rfl⟩
abbrev main_call12_c_3 : Ref sig .tc := ⟨.hbm, 382, rfl⟩
abbrev main_call12_v12 : Ref sig .tc := ⟨.hbm, 383, rfl⟩
abbrev main_call12_v13 : Ref sig .tc := ⟨.hbm, 384, rfl⟩
abbrev main_call12_cst : Ref sig .tc := ⟨.hbm, 385, rfl⟩
abbrev main_call12_v14 : Ref sig .tc := ⟨.hbm, 386, rfl⟩
abbrev main_v239 : Ref sig .tc := ⟨.hbm, 387, rfl⟩
abbrev main_v240 : Ref sig .tc := ⟨.hbm, 388, rfl⟩
abbrev main_v241 : Ref sig .tc := ⟨.hbm, 389, rfl⟩
abbrev main_v242 : Ref sig .tc := ⟨.hbm, 390, rfl⟩
abbrev main_v243 : Ref sig .tc := ⟨.hbm, 391, rfl⟩
abbrev main_v244 : Ref sig .tc := ⟨.hbm, 392, rfl⟩
abbrev main_v245 : Ref sig .tc := ⟨.hbm, 393, rfl⟩

abbrev nD : Nat := 1
abbrev τ : Topo := Topo.v7x

variable {F : FTy → Type} [FloatOps F]
-- ==== Proof.Steps.lean ====
/- The precondition read: a time step that is at least 0 and below 1000 as a signed word names a row of the tables. -/
module

public import proofs.«01_k».proof.Pre_in_table

@[expose] public section

noncomputable section

namespace Cert.Proof

open Idealize.ShloMosaic

/-- The conjunction of two one-bit answers is their conjunction as truth values. -/
theorem andi_bits (a b : Bool) : IntOp.andi (BitVec.ofBool a) (BitVec.ofBool b) = BitVec.ofBool (a && b) := by
  cases a <;> cases b <;> decide

/-- A one-bit answer is one exactly when it is true. -/
theorem bit_eq_one (a : Bool) : BitVec.ofBool a = 1#1 ↔ a = true := by cases a <;> decide

/-- Where the precondition holds, every time step is below a thousand. -/
theorem step_lt [Cert.Pre_in_table.Facts] {F : FTy → Type} [FloatOps F] {x0 : FVec F Cert.Pre_in_table.S128x3x224x224 .f32}
    {t : IVec Cert.Pre_in_table.S128 32} {a b : FVec F Cert.Pre_in_table.S1000 .f32}
    (h : Cert.Pre_in_table.fn (F := F) x0 t a b = fun _ => 1#1) (y : Cert.Pre_in_table.S128.Idx) : (t y).toNat < 1000 := by
  have e := congrFun h y
  simp only [Cert.Pre_in_table.fn, andi, cmpi, broadcastInDim, constantI, IntOp.cmpi, andi_bits, bit_eq_one, Bool.and_eq_true] at e
  obtain ⟨hge, hlt⟩ := e
  simp only [BitVec.sle, BitVec.slt, decide_eq_true_eq, BitVec.toInt, BitVec.toNat_ofNat] at hge hlt
  omega

end Cert.Proof

end
-- ==== Proof.BlockIdeal.lean ====
/- What one run of the kernel's body (of the program `KernelIdeal`) leaves in its two output blocks, written from what it reads:
   the block of noise (`noiseBlk`), a function of the grid point alone, and the block of noised images (`xtBlk`), four images each
   scaled by the two table entries its own time step names. -/
module

public import proofs.«01_k».proof.Proof.Gen.KernelIdeal.Frame
public import proofs.«01_k».proof.Proof.Gen.KernelIdeal.Skeleton
public import Idealize.ShloMosaic.Lib.Pipeline.Value
public import Idealize.ShloMosaic.Lib.ValueLayout

@[expose] public section

noncomputable section

namespace Cert.Proof.KernelIdeal

open Cert.KernelIdeal Cert.KernelIdeal.Gen Idealize.ShloMosaic Idealize.ShloMosaic.TcCoe Idealize.SL.Sem

variable {F : FTy → Type} [FloatOps F] [Named F]

/-! ## The noise -/

/-- The first word of the cipher's state after the kernel's twentieth round, at grid point `i`. -/
def lastX0 (i : grid0.Coords) : IVec S4x1176x128 32 :=
  let a := k0_pay10 i
  let b := k0_pay11 i
  let p := k0_pay22 a b 1#32
  let q := k0_pay23 a b 1#32
  let s := k0_pay24 a b 1#32
  k0_pay45 (k0_pay35 p q s) (k0_pay36 p q s)

/-- The second word, one constant short of its final value. -/
def lastX1 (i : grid0.Coords) : IVec S4x1176x128 32 :=
  let a := k0_pay10 i
  let b := k0_pay11 i
  let p := k0_pay22 a b 1#32
  let q := k0_pay23 a b 1#32
  let s := k0_pay24 a b 1#32
  k0_pay46 (k0_pay35 p q s) (k0_pay36 p q s)

/-- The block of noise the body stores at grid point `i`. -/
def noiseBlk (i : grid0.Coords) : FVec F S4x1176x128 .f32 :=
  let a := lastX0 i
  let b := lastX1 i
  k0_pay52 (k0_pay47 (F := F) a b 5#32) (k0_pay49 (F := F) a b 5#32) (k0_pay50 (F := F) a b 5#32) (k0_pay51 (F := F) a b 5#32)

/-! ## The time steps and the table entries -/

/-- The place in `t` of the time step of image `r` of the block at grid point `i`. -/
def stepIdx (i : grid0.Coords) (r : Fin 4) : S128.Idx :=
  fun a => match a with
    | ⟨0, _⟩ => ⟨4 * (i 0).val + r.val, by
        have h0 : (i 0).val < 32 := (i 0).isLt
        have h1 := r.isLt
        show 4 * (i 0).val + r.val < 128
        omega⟩

/-- The row of a table that the word `w` names (the word modulo the table's length, so that every word names one). -/
def rowIdx (w : BitVec 32) : S1000.Idx :=
  fun a => match a with
    | ⟨0, _⟩ => ⟨w.toNat % 1000, Nat.mod_lt _ (by decide : 0 < 1000)⟩

/-- Every word of `x` names a row of a table of a thousand. -/
def Words (x : IVec S128 32) : Prop := ∀ y, (x y).toNat < 1000

/-- The block of noised images: `table₁[t] * x₀ + table₂[t] * noise`, `t` the step of the image. -/
def xtBlk (i : grid0.Coords) (x0 : Vec F S128 .i32) (x1 x2 : Vec F S1000 .f32) (x3 : Vec F S4x1176x128 .f32) :
    Vec F S4x1176x128 .f32 := fun y =>
  FloatOps.addf (FloatOps.mulf (x1 (rowIdx (x0 (stepIdx i (y 0))))) (x3 y))
    (FloatOps.mulf (x2 (rowIdx (x0 (stepIdx i (y 0))))) (noiseBlk (F := F) i y))

/-! ## The stored rows -/

/-- An element of the row the body stores for one image: the image's element scaled by `a`, plus the noise there scaled by `b`.
    The body reaches it through casts of the row to two dimensions and back, which cancel. -/
theorem row_apply (off : Fin 3 → Nat) (hs : S4x1176x128.Slices off S1x1176x128) (v : FVec F S4x1176x128 .f32) (a b : F .f32)
    (r : FVec F S1x1176x128 .f32) (x : S1x1176x128.Idx) :
    shapeCast S1x1176x128 (addf (mulf (broadcast S1176x128 a) (shapeCast S1176x128 r shapeCasts_S1x1176x128_S1176x128))
        (mulf (broadcast S1176x128 b) (shapeCast S1176x128 (extractStridedSlice S1x1176x128 off v hs) shapeCasts_S1x1176x128_S1176x128)))
      shapeCasts_S1176x128_S1x1176x128 x
      = FloatOps.addf (FloatOps.mulf a (r x)) (FloatOps.mulf b (extractStridedSlice S1x1176x128 off v hs x)) := by
  have back (g : FVec F S1x1176x128 .f32) :
      shapeCast S1x1176x128 (shapeCast S1176x128 g shapeCasts_S1x1176x128_S1176x128) shapeCasts_S1176x128_S1x1176x128 x = g x :=
    congrFun (shapeCast_shapeCast g _ _) x
  have h1 := back r
  have h2 := back (extractStridedSlice S1x1176x128 off v hs)
  have e := congrArg₂ (fun p q => FloatOps.addf (FloatOps.mulf a p) (FloatOps.mulf b q)) h1 h2
  exact e

end Cert.Proof.KernelIdeal

end
-- ==== Proof.BodyIdeal.lean ====
/- The body of the program `KernelIdeal` run once: from the staging memrefs of the four inputs at their contents, it leaves the inputs
   as they were and the two output blocks at `xtBlk` and `noiseBlk` (BlockIdeal.lean), if every time step names a row of the tables. -/
module

public import proofs.«01_k».proof.Proof.BlockIdeal

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A word below a thousand is in range of the tables: the four side conditions the body assumes of the time steps are this one. -/
theorem chk_of_lt (w : BitVec 32) (h : w.toNat < 1000) : ∀ a, k0_off2 w a + S1.size a ≤ S1000.size a := by
  intro a
  match a with
  | ⟨0, _⟩ => show w.toNat + 1 ≤ 1000; omega

/-- A load of one word of the whole time-step memref, at the word of image `r`, reads that image's time step. -/
theorem read_step {arg : Memref sig .tc .smem S128 .i32} (harg : arg.IsWhole) (x : Vec F S128 .i32) (i : grid0.Coords) (r : Fin 4)
    {off : Fin 1 → Nat} (h : off = ![4 * (i 0).val + r.val]) (inb : ∀ a, off a + S1.size a ≤ S128.size a) (j : S1.Idx) :
    arg.view.readAt (Elt F) (Rect.unit (s := S128) off S1.size inb).toLoadRect (harg.unread x) j = x (stepIdx i r) := by
  subst h
  rw [View.readAt_apply, harg.read_unread]
  refine congrArg x (funext fun a => Fin.ext ?_)
  match a with
  | ⟨0, _⟩ =>
    have hj : (j 0).val < 1 := (j 0).isLt
    show 4 * (i 0).val + r.val + 1 * (j 0).val = 4 * (i 0).val + r.val
    omega

/-- A load of one entry of a whole table's memref, at the row that a word below a thousand names, reads that row. -/
theorem read_row {arg : Memref sig .tc .smem S1000 .f32} (harg : arg.IsWhole) (x : Vec F S1000 .f32) (w : BitVec 32)
    (hw : w.toNat < 1000) {off : Fin 1 → Nat} (h : off = ![w.toNat]) (inb : ∀ a, off a + S1.size a ≤ S1000.size a) (j : S1.Idx) :
    arg.view.readAt (Elt F) (Rect.unit (s := S1000) off S1.size inb).toLoadRect (harg.unread x) j = x (rowIdx w) := by
  subst h
  rw [View.readAt_apply, harg.read_unread]
  refine congrArg x (funext fun a => Fin.ext ?_)
  match a with
  | ⟨0, _⟩ =>
    have hj : (j 0).val < 1 := (j 0).isLt
    show w.toNat + 1 * (j 0).val = w.toNat % 1000
    rw [Nat.mod_eq_of_lt hw]
    omega

/-- The row stored for image `r`, of an image row read at the same place and with the two entries its time step names, is
    that row of `xtBlk`. -/
theorem row_eq {arg : Memref sig .tc .vmem S4x1176x128 .f32} (harg : arg.IsWhole) (i : grid0.Coords) (x0 : Vec F S128 .i32)
    (x1 x2 : Vec F S1000 .f32) (x3 : Vec F S4x1176x128 .f32) (r : Fin 4) (off : Fin 3 → Nat) (hoff : off = ![r.val, 0, 0])
    (inb : ∀ a, off a + S1x1176x128.size a ≤ S4x1176x128.size a) (hs : S4x1176x128.Slices off S1x1176x128) (a b : F .f32)
    (ha : a = x1 (rowIdx (x0 (stepIdx i r)))) (hb : b = x2 (rowIdx (x0 (stepIdx i r)))) (x : S1x1176x128.Idx) :
    shapeCast S1x1176x128 (addf (mulf (broadcast S1176x128 a) (shapeCast S1176x128
            (arg.view.readAt (Elt F) (Rect.unit (s := S4x1176x128) off S1x1176x128.size inb).toLoadRect (harg.unread x3) : FVec F S1x1176x128 .f32)
            shapeCasts_S1x1176x128_S1176x128))
        (mulf (broadcast S1176x128 b) (shapeCast S1176x128 (extractStridedSlice S1x1176x128 off (noiseBlk (F := F) i) hs) shapeCasts_S1x1176x128_S1176x128)))
      shapeCasts_S1176x128_S1x1176x128 x
      = xtBlk i x0 x1 x2 x3 ((Rect.unit (s := S4x1176x128) off S1x1176x128.size inb).emb x) := by
  rw [row_apply, View.readAt_apply, harg.read_unread]
  have hr : ((Rect.unit (s := S4x1176x128) off S1x1176x128.size inb).emb x) 0 = r := Fin.ext (by
    have hx : (x 0).val < 1 := (x 0).isLt
    subst hoff
    show r.val + 1 * (x 0).val = r.val
    omega)
  have hn : extractStridedSlice S1x1176x128 off (noiseBlk (F := F) i) hs x
      = noiseBlk (F := F) i ((Rect.unit (s := S4x1176x128) off S1x1176x128.size inb).emb x) := by
    refine congrArg (noiseBlk (F := F) i) (funext fun a => Fin.ext ?_)
    show off a + (x a).val = off a + 1 * (x a).val
    omega
  unfold xtBlk
  rw [hr, hn, ha, hb]
  rfl

set_option maxHeartbeats 1000000 in
/-- THE BODY, RUN ONCE at grid point `i`: from the four inputs' memrefs at `x0` … `x3`, the time steps naming rows of the
    tables, it reaches its end with those memrefs as they were, the fifth at `xtBlk` and the sixth at `noiseBlk`. -/
theorem body_run (c : Dev nD) (i : grid0.Coords) (arg1 : Memref sig .tc .smem S128 .i32) (harg1 : arg1.IsWhole) (arg2 : Memref sig .tc .smem S1000 .f32) (harg2 : arg2.IsWhole)
    (arg3 : Memref sig .tc .smem S1000 .f32) (harg3 : arg3.IsWhole) (arg4 : Memref sig .tc .vmem S4x1176x128 .f32) (harg4 : arg4.IsWhole) (arg5 : Memref sig .tc .vmem S4x1176x128 .f32) (harg5 : arg5.IsWhole) (arg6 : Memref sig .tc .vmem S4x1176x128 .f32) (harg6 : arg6.IsWhole)
    (x0 : Vec F S128 .i32) (x1 x2 : Vec F S1000 .f32) (x3 : Vec F S4x1176x128 .f32) (hx : Words x0) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d) ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (xtBlk i x0 x1 x2 x3) ∗ owns (c : Thread nD τ) arg6 fullShare (noiseBlk i)) -∗ K ⟨⟩))
      ⊢ wp frame (wpE (defs₀ (F := F)) Variants.none c none) E (cc0__noise_kernel i arg1 harg1 arg2 harg2 arg3 harg3 arg4 harg4 arg5 harg5 arg6 harg6) K := by
  have hw (r : Rect S128) (j : r.shape.Idx) : (arg1.view.readAt (Elt F) r.toLoadRect (harg1.unread x0) j).toNat < 1000 := by
    rw [View.readAt_apply, harg1.read_unread]; exact hx _
  simp only [cc0__noise_kernel_eq_skeleton]; unfold cc0__noise_kernel_skel
  simp only [k0_part1_eq_skeleton, k0_part2_eq_skeleton, k0_part3_eq_skeleton, k0_part4_eq_skeleton, k0_part5_eq_skeleton, k0_part6_eq_skeleton, k0_part7_eq_skeleton]
  unfold owns
  iintro ⟨⟨%f0, %hf0, H0⟩, ⟨%f1, %hf1, H1⟩, ⟨%f2, %hf2, H2⟩, ⟨%f3, %hf3, H3⟩, ⟨%d4, %f4, -, H4⟩, ⟨%d5, %f5, -, H5⟩, Hk⟩
  obtain rfl := harg1.eq_unread hf0; obtain rfl := harg2.eq_unread hf1; obtain rfl := harg3.eq_unread hf2; obtain rfl := harg4.eq_unread hf3
  sl_exec (disch := exact chk_of_lt _ (hw _ _))
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr
    swap; · iexact H4
    ipureintro
    funext y
    refine (View.read_writes_apply_eq_canon _ _ y _ ?hc).trans (View.canon_apply_of_pieces _ _ ?_ y ?hc)
    case hc => exact View.cover_of_tiledL (s := S4x1176x128) _ S1x1176x128.size (by sl_kernel_rfl) y
    simp only [List.forall_mem_cons, List.not_mem_nil, false_imp_iff, implies_true, and_true]
    have tab1 (r : Fin 4) (w : BitVec 32) (hw : w.toNat < 1000) (e : w = x0 (stepIdx i r)) {off : Fin 1 → Nat} (h : off = ![w.toNat]) (inb) (j) :=
      (read_row (F := F) harg2 x1 w hw h inb j).trans (congrArg (fun w => x1 (rowIdx w)) e)
    have tab2 (r : Fin 4) (w : BitVec 32) (hw : w.toNat < 1000) (e : w = x0 (stepIdx i r)) {off : Fin 1 → Nat} (h : off = ![w.toNat]) (inb) (j) :=
      (read_row (F := F) harg3 x2 w hw h inb j).trans (congrArg (fun w => x2 (rowIdx w)) e)
    refine ⟨fun x => row_eq harg4 i x0 x1 x2 x3 3 ![3, 0, 0] rfl _ slices_S4x1176x128_o3_0_0_S1x1176x128 _ _ ?_ ?_ x,
      fun x => row_eq harg4 i x0 x1 x2 x3 2 ![2, 0, 0] rfl _ slices_S4x1176x128_o2_0_0_S1x1176x128 _ _ ?_ ?_ x,
      fun x => row_eq harg4 i x0 x1 x2 x3 1 ![1, 0, 0] rfl _ slices_S4x1176x128_o1_0_0_S1x1176x128 _ _ ?_ ?_ x,
      fun x => row_eq harg4 i x0 x1 x2 x3 0 ![0, 0, 0] rfl _ slices_S4x1176x128_o0_0_0_S1x1176x128 _ _ ?_ ?_ x⟩
    · exact tab1 3 _ (hw _ _) (read_step harg1 x0 i 3 (k0_off7_eq i) _ _) rfl _ _
    · exact tab2 3 _ (hw _ _) (read_step harg1 x0 i 3 (k0_off7_eq i) _ _) rfl _ _
    · exact tab1 2 _ (hw _ _) (read_step harg1 x0 i 2 (k0_off5_eq i) _ _) rfl _ _
    · exact tab2 2 _ (hw _ _) (read_step harg1 x0 i 2 (k0_off5_eq i) _ _) rfl _ _
    · exact tab1 1 _ (hw _ _) (read_step harg1 x0 i 1 (k0_off3_eq i) _ _) rfl _ _
    · exact tab2 1 _ (hw _ _) (read_step harg1 x0 i 1 (k0_off3_eq i) _ _) rfl _ _
    · exact tab1 0 _ (hw _ _) (read_step harg1 x0 i 0 (k0_off1_eq i) _ _) rfl _ _
    · exact tab2 0 _ (hw _ _) (read_step harg1 x0 i 0 (k0_off1_eq i) _ _) rfl _ _
  iexists _; isplitr
  swap; · iexact H5
  ipureintro
  refine (View.read_writes_eq_canon _ _ _ ?_).trans (View.canon_unit_zero (by decide) _ _)
  exact fun y => ⟨_, List.mem_singleton_self _, View.mem_set_unit_zero (by decide) inb_S4x1176x128_S4x1176x128_0_0_0 y⟩

end Cert.Proof.KernelIdeal

end
-- ==== Proof.FrameIdeal.lean ====
/- The launch of the program `KernelIdeal`: the body's triple (BodyIdeal.lean) at every grid point, the run of the whole program from it,
   and its frame — the argument arrays end as launched and every counter at zero —, wherever the time steps name rows of the tables. -/
module

public import proofs.«01_k».proof.Proof.BodyIdeal
public import proofs.«01_k».proof.Proof.Gen.KernelIdeal.Frame
public import Idealize.ShloMosaic.Lib.Claim

@[expose] public section

set_option maxRecDepth 16384

noncomputable section

namespace Cert.Proof.KernelIdeal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligation)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Every time step that a device was given names a row of the tables. -/
def Steps (m : (ℓ : Loc nD τ sig) → Buf (Elt F) ℓ) : Prop := ∀ c : Dev nD, Words (m ((c.tc : Thread nD τ).loc main_arg1))

/-- The block of time steps that the body is given, which is the whole array at every point, holds such words too. -/
theorem words_iblk (hS : Steps m) (c : Dev nD) (t : Fin cfg0.N) : Words (iblk m c 0 t) := by
  intro y
  unfold iblk
  rw [View.read_apply, cast_eq]
  refine (congrArg (· < 1000) (congrArg BitVec.toNat (congrFun (V_main_arg1 m c) _))).mpr (hS c _)

/-- What the fifth memref holds when the body is done at point `t`: the block of noised images. -/
def xtAt (c : Dev nD) (t : Fin cfg0.N) : Vec F S4x1176x128 .f32 :=
  xtBlk (grid0.coords t) (iblk m c 0 t) (iblk m c 1 t) (iblk m c 2 t) (iblk m c 3 t)

/-- The data of the run: the arrays as the launch finds them, each input block left as it was, the two output blocks at
    `xtAt` and `noiseBlk`. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => xtAt m c t
    | ⟨5, _⟩ => noiseBlk (F := F) (grid0.coords t)
  Φ _ := Pipeline.ΦA spec0 c
  q _ := fullShare
  owed _ := 0

theorem dats_A (c : Dev nD) (w : Fin cfg0.W) : (dats m 0 c).A w = V m c (Pipeline.arrRef spec0 w) := by
  dsimp only [dats]

/-! What each memref holds after the body, … -/

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = xtAt m c t := by dsimp only [dats]
theorem after_5 (c : Dev nD) (t : Fin cfg0.N) : (dats m 0 c).after 5 t = noiseBlk (F := F) (grid0.coords t) := by dsimp only [dats]

/-! … and what the inputs' hold before it. -/

theorem before_0 (c : Dev nD) (t : Fin cfg0.N) (d) : (dats m 0 c).before 0 t d = iblk m c 0 t :=
  before0_0_of m (dats m 0 c) (dats_A m c 0) (after_0 m c) t d
theorem before_1 (c : Dev nD) (t : Fin cfg0.N) (d) : (dats m 0 c).before 1 t d = iblk m c 1 t :=
  before0_1_of m (dats m 0 c) (dats_A m c 1) (after_1 m c) t d
theorem before_2 (c : Dev nD) (t : Fin cfg0.N) (d) : (dats m 0 c).before 2 t d = iblk m c 2 t :=
  before0_2_of m (dats m 0 c) (dats_A m c 2) (after_2 m c) t d
theorem before_3 (c : Dev nD) (t : Fin cfg0.N) (d) : (dats m 0 c).before 3 t d = iblk m c 3 t :=
  before0_3_of m (dats m 0 c) (dats_A m c 3) (after_3 m c) t d

/-- What the body is handed at point `t`, memref by memref, -/
def pre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))

/-- and what it hands back. -/
def post (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t))

/-- The body at point `t` takes the one to the other: `body_run` at the point's memrefs and blocks. -/
theorem body_at (hS : Steps m) (c : Dev nD) (t : Fin cfg0.N) :
    pre m c t ⊢ wp frame (wpE (defs₀ (F := F)) Variants.none c none) Set.univ (bodyAt0 t) (fun _ => post m c t) := by
  unfold pre post bodyAt0
  simp only [before_0, before_1, before_2, before_3]
  rw [show (dats m 0 c).Φ t.succ = (dats m 0 c).Φ t.castSucc from rfl,
    show (dats m 0 c).owesAt () t.succ = (dats m 0 c).owesAt () t.castSucc from rfl,
    after_0, after_1, after_2, after_3, after_4, after_5]
  unfold xtAt
  iintro ⟨HΦ, Ho, ⟨%d0, H0⟩, ⟨%d1, H1⟩, ⟨%d2, H2⟩, ⟨%d3, H3⟩, ⟨%d4, H4⟩, ⟨%d5, H5⟩⟩
  iapply (body_run c (grid0.coords t) _ _ _ _ _ _ _ _ _ _ _ _ (iblk m c 0 t) (iblk m c 1 t) (iblk m c 2 t) (iblk m c 3 t)
    (words_iblk m hS c t) Set.univ _)
  isplitl [H0]; · iexact H0
  isplitl [H1]; · iexact H1
  isplitl [H2]; · iexact H2
  isplitl [H3]; · iexact H3
  isplitl [H4]; · iexists _; iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The obligation that the launch asks of the body, at every point. -/
theorem body_obliged (hS : Steps m) (c : Dev nD) : BodyObligation (dats (F := F) m 0 c) (defs₀ (F := F)) Variants.none () Set.univ := fun t => by
  rw [bigSep_W0, bigSep_W0, show defs₀ (F := F) .tc cfg0.body (cfg0.bodyArgs t (cfg0.slots t)) = bodyAt0 t by unfold defs₀; rw [Defs.onTc_tc]]
  exact triple_restated (body_at m hS c t) rfl .rfl fun _ => .rfl

set_option backward.isDefEq.respectTransparency.types false in
set_option maxHeartbeats 800000 in
/-- THE RUN: the program ends; the staged arrays hold what the grid's points left there, every other array what the two
    reshapes after the launch leave; and every counter reads zero. -/
theorem run_quiescent (hS : Steps m) : θ_run defs (onTc (τ := τ) (main (F := F))) (s₀ m ρ)
    (fun r => (Pipeline.FramePost cfgs (dats m) 0 (Pipeline.afterTail₀ cfgs (dats m) 0 (V0 m) [hostOps1])) r ∧ r.2.sem = fun _ => 0) :=
  Pipeline.θ_run_frame_around (Q' := _) cfgs (dats m) (0 : Fin 1) launch0 defs₀ Variants.none m ρ main
    (hbody := fun c => (body_obliged m hS c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := dats_A m) (hΦ := fun _ _ => rfl)

/-- The run without the counters. -/
theorem run_arrays (hS : Steps m) : θ_run defs (onTc (τ := τ) (main (F := F))) (s₀ m ρ)
    (Pipeline.FramePost cfgs (dats m) 0 (Pipeline.afterTail₀ cfgs (dats m) 0 (V0 m) [hostOps1])) :=
  (θ_run defs _ _).mono (fun _ h => h.1) (run_quiescent m ρ hS)

/-- The four argument arrays end as launched. -/
theorem args_kept (hS : Steps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (dats_A m) (run_arrays m ρ hS)

/-- THE FRAME: the four argument arrays end as launched and every counter at zero. -/
theorem frame_run (hS : Steps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (args_kept m ρ hS) ((θ_run defs _ _).mono (fun _ h => h.2) (run_quiescent m ρ hS))

end Cert.Proof.KernelIdeal

end
-- ==== Proof.ArraysIdeal.lean ====
/- What the arrays of the program `KernelIdeal` hold when it is done. Each grid point writes back four images of either output, so the
   two output arrays of the launch are one function each of the arrays the launch reads (`noiseArr`, `noisedArr`); the program's two
   results are those arrays read in the images' own shape, as the launch reads the images in the kernel's. -/
module

public import proofs.«01_k».proof.Proof.FrameIdeal
public import proofs.«01_k».proof.Proof.Gen.KernelIdeal.Points
public import Idealize.ShloMosaic.Lib.Pipeline.ValueKit

@[expose] public section

set_option maxRecDepth 16384

noncomputable section

namespace Cert.Proof.KernelIdeal

open Cert.KernelIdeal Cert.KernelIdeal.Gen
open Idealize.ShloMosaic Idealize.ShloMosaic.TcCoe Idealize.SL.Sem

variable {F : FTy → Type} [FloatOps F] [Named F]

variable (m : (ℓ : Loc nD τ sig) → Buf (Elt F) ℓ) (ρ : Dev nD → PrngReg)

/-! ## The arrays -/

/-- The grid point whose block holds place `k` of an output array. -/
def pointOf (k : S128x1176x128.Idx) : grid0.Coords := fun a => match a with
  | ⟨0, _⟩ => ⟨(k 0).val / 4, by have h : (k 0).val < 128 := (k 0).isLt; show (k 0).val / 4 < 32; omega⟩

/-- The place `k` has in that block. -/
def placeOf (k : S128x1176x128.Idx) : S4x1176x128.Idx := fun a => match a with
  | ⟨0, _⟩ => ⟨(k 0).val % 4, Nat.mod_lt _ (by decide)⟩
  | ⟨1, _⟩ => k 1
  | ⟨2, _⟩ => k 2

/-- The place in `t` of the time step of the image that `k` is in. -/
def imageOf (k : S128x1176x128.Idx) : S128.Idx := fun a => match a with | ⟨0, _⟩ => k 0

/-- The array of noise. -/
def noiseArr : Vec F S128x1176x128 .f32 := fun k => noiseBlk (F := F) (pointOf k) (placeOf k)

/-- The array of noised images, of the time steps, the two tables and the array of images. -/
def noisedArr (x0 : Vec F S128 .i32) (x1 x2 : Vec F S1000 .f32) (x3 : Vec F S128x1176x128 .f32) : Vec F S128x1176x128 .f32 :=
  fun k => FloatOps.addf (FloatOps.mulf (x1 (rowIdx (x0 (imageOf k)))) (x3 k))
    (FloatOps.mulf (x2 (rowIdx (x0 (imageOf k)))) (noiseArr (F := F) k))

/-! ## The windows' blocks in their arrays -/

/-- The time steps' block is all of them at every point, as the tables' are, … -/
theorem index_0 : ∀ t : Fin cfg0.N, win0_0.index t = ![0] := (by decide +kernel : ∀ t : Fin grid0.N, _)
theorem index_1 : ∀ t : Fin cfg0.N, win0_1.index t = ![0] := (by decide +kernel : ∀ t : Fin grid0.N, _)
theorem index_2 : ∀ t : Fin cfg0.N, win0_2.index t = ![0] := (by decide +kernel : ∀ t : Fin grid0.N, _)

/-- … and the images' are four images, the point's own, of the array read and of the two written. -/
theorem index_3 : ∀ t : Fin cfg0.N, win0_3.index t = ![(grid0.coords t 0).val, 0, 0] := (by decide +kernel : ∀ t : Fin grid0.N, _)
theorem index_4 : ∀ t : Fin cfg0.N, win0_4.index t = ![(grid0.coords t 0).val, 0, 0] := (by decide +kernel : ∀ t : Fin grid0.N, _)
theorem index_5 : ∀ t : Fin cfg0.N, win0_5.index t = ![(grid0.coords t 0).val, 0, 0] := (by decide +kernel : ∀ t : Fin grid0.N, _)

theorem steps_block (c : Dev nD) (t : Fin cfg0.N) (y : S128.Idx) : iblk m c 0 t y = V m c main_arg1 y := by
  unfold iblk
  rw [View.read_apply, cast_eq]
  refine congrArg (V m c main_arg1) ?_
  blk_ext [index_0]

theorem first_block (c : Dev nD) (t : Fin cfg0.N) (y : S1000.Idx) : iblk m c 1 t y = V m c main_arg2 y := by
  unfold iblk
  rw [View.read_apply, cast_eq]
  refine congrArg (V m c main_arg2) ?_
  blk_ext [index_1]

theorem second_block (c : Dev nD) (t : Fin cfg0.N) (y : S1000.Idx) : iblk m c 2 t y = V m c main_arg3 y := by
  unfold iblk
  rw [View.read_apply, cast_eq]
  refine congrArg (V m c main_arg3) ?_
  blk_ext [index_2]

/-- A place `k` of an array of images is place `y` of the point's block: four images a point. -/
def At (t : Fin cfg0.N) (y : S4x1176x128.Idx) (k : S128x1176x128.Idx) : Prop :=
  (k 0).val = 4 * (grid0.coords t 0).val + (y 0).val ∧ (k 1).val = (y 1).val ∧ (k 2).val = (y 2).val

theorem at_3 (t : Fin cfg0.N) (y : S4x1176x128.Idx) : At t y (((cfg0.win 3).blk t).view.emb y) := by
  refine ⟨?_, ?_, ?_⟩
  · blk_simp [index_3]
    omega
  · blk_simp [index_3]
  · blk_simp [index_3]

theorem at_4 (t : Fin cfg0.N) (y : S4x1176x128.Idx) : At t y (((cfg0.win 4).blk t).view.emb y) := by
  refine ⟨?_, ?_, ?_⟩
  · blk_simp [index_4]
    omega
  · blk_simp [index_4]
  · blk_simp [index_4]

theorem at_5 (t : Fin cfg0.N) (y : S4x1176x128.Idx) : At t y (((cfg0.win 5).blk t).view.emb y) := by
  refine ⟨?_, ?_, ?_⟩
  · blk_simp [index_5]
    omega
  · blk_simp [index_5]
  · blk_simp [index_5]

/-- Such a place is in that point's block and no other's, … -/
theorem At.pointOf_eq {t : Fin cfg0.N} {y : S4x1176x128.Idx} {k : S128x1176x128.Idx} (h : At t y k) :
    pointOf k = grid0.coords t := by
  funext a
  obtain rfl : a = 0 := Subsingleton.elim (α := Fin 1) _ _
  refine Fin.ext ?_
  have hy : (y 0).val < 4 := (y 0).isLt
  show (k 0).val / 4 = (grid0.coords t 0).val
  rw [h.1]
  omega

/-- … is that place of it, … -/
theorem At.placeOf_eq {t : Fin cfg0.N} {y : S4x1176x128.Idx} {k : S128x1176x128.Idx} (h : At t y k) : placeOf k = y := by
  have hy : (y 0).val < 4 := (y 0).isLt
  funext a
  refine Fin.ext ?_
  match a with
  | ⟨0, _⟩ =>
    show (k 0).val % 4 = (y 0).val
    rw [h.1]
    omega
  | ⟨1, _⟩ => exact h.2.1
  | ⟨2, _⟩ => exact h.2.2

/-- … has that point's time step, … -/
theorem At.imageOf_eq {t : Fin cfg0.N} {y : S4x1176x128.Idx} {k : S128x1176x128.Idx} (h : At t y k) :
    imageOf k = stepIdx (grid0.coords t) (y 0) := by
  funext a
  obtain rfl : a = 0 := Subsingleton.elim (α := Fin 1) _ _
  exact Fin.ext h.1

/-- … and is determined by the two. -/
theorem At.unique {t : Fin cfg0.N} {y : S4x1176x128.Idx} {k k' : S128x1176x128.Idx} (h : At t y k) (h' : At t y k') : k = k' := by
  funext a
  refine Fin.ext ?_
  match a with
  | ⟨0, _⟩ => exact h.1.trans h'.1.symm
  | ⟨1, _⟩ => exact h.2.1.trans h'.2.1.symm
  | ⟨2, _⟩ => exact h.2.2.trans h'.2.2.symm

theorem images_block (c : Dev nD) (t : Fin cfg0.N) (y : S4x1176x128.Idx) (k : S128x1176x128.Idx) (h : At t y k) :
    iblk m c 3 t y = V m c main_v0 k := by
  unfold iblk
  rw [View.read_apply, cast_eq]
  exact congrArg (V m c main_v0) ((at_3 t y).unique h)

/-! ## What the launch leaves in its output arrays -/

/-- The noise the body leaves at a point is the array of noise there. -/
theorem noise_at (t : Fin cfg0.N) (y : S4x1176x128.Idx) (k : S128x1176x128.Idx) (h : At t y k) :
    noiseBlk (F := F) (grid0.coords t) y = noiseArr (F := F) k := by
  unfold noiseArr
  rw [h.pointOf_eq, h.placeOf_eq]

/-- The noised images it leaves are the array of noised images there. -/
theorem noised_at (c : Dev nD) (t : Fin cfg0.N) (y : S4x1176x128.Idx) (k : S128x1176x128.Idx) (h : At t y k) :
    xtAt m c t y = noisedArr (V m c main_arg1) (V m c main_arg2) (V m c main_arg3) (V m c main_v0) k := by
  unfold xtAt xtBlk noisedArr
  rw [first_block, second_block, steps_block, images_block m c t y k h, noise_at t y k h, h.imageOf_eq]

theorem covers_4 : win0_4.Covers := by decide +kernel
theorem covers_5 : win0_5.Covers := by decide +kernel

/-- The first output array after the launch. -/
theorem array_4 (c : Dev nD) : (dats m 0 c).arrAt 4 cfg0.N
    = noisedArr (V m c main_arg1) (V m c main_arg2) (V m c main_arg3) (V m c main_v0) := by
  refine (dats m 0 c).arrAt_eq_of_cover 4 _ (fun t _ => ?_) (covers_4.cover _ (Memref.isWhole_whole _))
  funext y
  rw [View.read_apply, cast_eq]
  exact (congrFun (after_4 m c t) y).trans (noised_at m c t y _ (at_4 t y))

/-- The second. -/
theorem array_5 (c : Dev nD) : (dats m 0 c).arrAt 5 cfg0.N = noiseArr (F := F) := by
  refine (dats m 0 c).arrAt_eq_of_cover 5 _ (fun t _ => ?_) (covers_5.cover _ (Memref.isWhole_whole _))
  funext y
  rw [View.read_apply, cast_eq]
  exact (congrFun (after_5 m c t) y).trans (noise_at t y _ (at_5 t y))

/-! ## The program's results -/

/-- The place in the kernel's layout of place `j` of the images. -/
def flat (j : S128x3x224x224.Idx) : S128x1176x128.Idx := fun a => match a with
  | ⟨0, _⟩ => j 0
  | ⟨1, _⟩ => ⟨(((j 1).val * 224 + (j 2).val) * 224 + (j 3).val) / 128, by
      have h1 : (j 1).val < 3 := (j 1).isLt
      have h2 : (j 2).val < 224 := (j 2).isLt
      have h3 : (j 3).val < 224 := (j 3).isLt
      show _ / 128 < 1176
      omega⟩
  | ⟨2, _⟩ => ⟨(((j 1).val * 224 + (j 2).val) * 224 + (j 3).val) % 128, Nat.mod_lt _ (by decide)⟩

/-- The two places have the same number. -/
theorem flat_number (j : S128x3x224x224.Idx) :
    (S128x1176x128.rowMajor (flat j)).val = (S128x3x224x224.rowMajor j).val := by
  rw [Shape.rowMajor_val_three, Shape.rowMajor_val_four]
  show ((j 0).val * 1176 + (((j 1).val * 224 + (j 2).val) * 224 + (j 3).val) / 128) * 128
      + (((j 1).val * 224 + (j 2).val) * 224 + (j 3).val) % 128
    = (((j 0).val * 3 + (j 1).val) * 224 + (j 2).val) * 224 + (j 3).val
  omega

/-- The launch's images at such a place are the images. -/
theorem images_flat (c : Dev nD) (j : S128x3x224x224.Idx) :
    V m c main_v0 (flat j) = m ((c : Thread nD τ).loc main_arg0) j := by
  have h : V m c main_v0 = shapeCast S128x1176x128 (m ((c : Thread nD τ).loc main_arg0)) shapeCasts_S128x3x224x224_S128x1176x128 := by
    dsimp only [V, V0, hostOps0]
    simp only [List.flatten_cons, List.flatten_nil, List.append_nil]
    after_results
    rfl
  rw [h]
  exact shapeCast_apply _ _ (flat j) j (flat_number j).symm

/-- The first result. -/
theorem result_noised (c : Dev nD) (j : S128x3x224x224.Idx) :
    Pipeline.afterTail₀ cfgs (dats m) 0 (V0 m) [hostOps1] c main_v2 j
      = noisedArr (V m c main_arg1) (V m c main_arg2) (V m c main_arg3) (V m c main_v0) (flat j) := by
  have h : Pipeline.afterTail₀ cfgs (dats m) 0 (V0 m) [hostOps1] c main_v2
      = shapeCast S128x3x224x224 ((dats m 0 c).arrAt 4 cfg0.N) shapeCasts_S128x1176x128_S128x3x224x224 := by
    unfold Pipeline.afterTail₀
    dsimp only [hostOps1]
    simp only [List.flatten_cons, List.flatten_nil, List.append_nil]
    after_results
    exact congrArg (fun x => shapeCast S128x3x224x224 x shapeCasts_S128x1176x128_S128x3x224x224)
      (Pipeline.withArrays_arr spec0 winFacts0.arr_inj c (V0 m c) _ 4)
  rw [h, array_4]
  exact shapeCast_apply _ _ j (flat j) (flat_number j)

/-- The second. -/
theorem result_noise (c : Dev nD) (j : S128x3x224x224.Idx) :
    Pipeline.afterTail₀ cfgs (dats m) 0 (V0 m) [hostOps1] c main_v3 j = noiseArr (F := F) (flat j) := by
  have h : Pipeline.afterTail₀ cfgs (dats m) 0 (V0 m) [hostOps1] c main_v3
      = shapeCast S128x3x224x224 ((dats m 0 c).arrAt 5 cfg0.N) shapeCasts_S128x1176x128_S128x3x224x224 := by
    unfold Pipeline.afterTail₀
    dsimp only [hostOps1]
    simp only [List.flatten_cons, List.flatten_nil, List.append_nil]
    after_results
    exact congrArg (fun x => shapeCast S128x3x224x224 x shapeCasts_S128x1176x128_S128x3x224x224)
      (Pipeline.withArrays_arr spec0 winFacts0.arr_inj c (V0 m c) _ 5)
  rw [h, array_5]
  exact shapeCast_apply _ _ j (flat j) (flat_number j)

/-- The run with the two results at those functions of the arrays. -/
theorem results_run (hS : Steps m) : θ_run defs (onTc (τ := τ) (main (F := F))) ⟨m, fun _ => 0, ρ⟩ (fun r => ∀ c : Dev nD,
      (∀ j, r.2.mem ((c.tc : Thread nD τ).loc main_v2) j
        = noisedArr (V m c main_arg1) (V m c main_arg2) (V m c main_arg3) (V m c main_v0) (flat j))
      ∧ ∀ j, r.2.mem ((c.tc : Thread nD τ).loc main_v3) j = noiseArr (F := F) (flat j)) :=
  (θ_run defs _ _).mono (fun _ h c =>
    ⟨fun j => (congrFun ((h c).2 main_v2 (Pipeline.mem_restRefs_of main_v2 (by decide) (by decide))) j).trans (result_noised m c j),
      fun j => (congrFun ((h c).2 main_v3 (Pipeline.mem_restRefs_of main_v3 (by decide) (by decide))) j).trans (result_noise m c j)⟩)
    (run_arrays m ρ hS)

end Cert.Proof.KernelIdeal

end
-- ==== Proof.Counter.lean ====
/- The counters. The kernel numbers the numbers of its own layout (128 images of 1176 rows of 128) from a grid point's first image;
   the reference numbers those of the images' (128 of 3 planes of 224 rows of 224). Both count in row-major order from 42, so at the
   same number of the same image they are the same word. -/
module

public import proofs.«01_k».proof.Proof.BlockIdeal
public import proofs.«01_k».proof.Proof.Gen.ReferenceIdeal.Read

@[expose] public section

noncomputable section

namespace Cert.Proof

open Idealize.ShloMosaic

/-- The counter of the `n`-th number of the noise. -/
def counter (n : Nat) : BitVec 32 := BitVec.ofNat 32 (n + 42)

namespace KernelIdeal

open Cert.KernelIdeal Cert.KernelIdeal.Gen

/-- The kernel's counter at a place of a grid point's block, place by place of the block's row-major order. -/
theorem counter_apply (i : grid0.Coords) (y : S4x1176x128.Idx) :
    k0_pay3 i y = counter ((4 * (i 0).val + (y 0).val) * 150528 + (y 1).val * 128 + (y 2).val) := by
  have h : k0_pay3 i y = ((BitVec.ofNat 32 (i 0).val * 602112#32 + 42#32 + BitVec.ofNat 32 (y 0).val * 150528#32)
      + BitVec.ofNat 32 (y 1).val * 128#32) + BitVec.ofNat 32 (y 2).val := by
    unfold k0_pay3
    have axis (d : Fin 3) (hd : S4x1176x128.Iotas .tc 32 [d]) : iota .tc S4x1176x128 32 [d] hd y = BitVec.ofNat 32 (y d).val :=
      congrArg (BitVec.ofNat 32) (by show 0 * S4x1176x128.size d + (y d).val = (y d).val; omega)
    rw [← axis 0 iota_S4x1176x128_d0_w32, ← axis 1 iota_S4x1176x128_d1_w32, ← axis 2 iota_S4x1176x128_d2_w32]
    rfl
  rw [h]
  unfold counter
  simp only [← BitVec.ofNat_mul, ← BitVec.ofNat_add]
  exact congrArg (BitVec.ofNat 32) (by omega)

end KernelIdeal

namespace ReferenceIdeal

open Cert.ReferenceIdeal Cert.ReferenceIdeal.Gen Cert.ReferenceIdeal.Read

variable {F : FTy → Type} [FloatOps F]

/-- The reference's counter at a place of the images, place by place of their row-major order. -/
theorem counter_apply (j : S128x3x224x224.Idx) :
    val_main_v6 (F := F) j
      = counter ((((j 0).val * 3 + (j 1).val) * 224 + (j 2).val) * 224 + (j 3).val) := by
  rw [val_main_v6_apply, val_main_v1_apply, val_main_v0_apply, val_main_v5_apply, val_main_c_1_apply]
  exact (BitVec.ofNat_add _ 42).symm

end ReferenceIdeal

end Cert.Proof

end
-- ==== Proof.Cipher.lean ====
/- The generator's cipher, one counter at a time: what its twenty rounds make of a counter word, and that the kernel's vectors
   (KernelIdeal) hold it at every place of a block. The rounds are stated for any unit that shifts, since the kernel's shifts are the
   vector unit's and the reference's the host's; both agree at the amounts used. -/
module

public import proofs.«01_k».proof.Proof.BlockIdeal

@[expose] public section

noncomputable section

namespace Cert.Proof

open Idealize.ShloMosaic

/-- One round on the two words of the state: add, rotate the second word left by `r` (that is, right by `s = 32 - r`), exclusive-or. -/
def round (u : ArithUnit) (r s : BitVec 32) (p : BitVec 32 × BitVec 32) : BitVec 32 × BitVec 32 :=
  (IntOp.addi p.1 p.2, IntOp.xori (IntOp.ori (IntOp.shli u p.2 r) (IntOp.shrui u p.2 s)) (IntOp.addi p.1 p.2))

/-- The four rounds of an even group. -/
def even (u : ArithUnit) (p : BitVec 32 × BitVec 32) : BitVec 32 × BitVec 32 :=
  round u 6#32 26#32 (round u 26#32 6#32 (round u 15#32 17#32 (round u 13#32 19#32 p)))

/-- The four rounds of an odd group. -/
def odd (u : ArithUnit) (p : BitVec 32 × BitVec 32) : BitVec 32 × BitVec 32 :=
  round u 24#32 8#32 (round u 16#32 16#32 (round u 29#32 3#32 (round u 17#32 15#32 p)))

/-- The addition of two words of the key to the state. -/
def key (k l : BitVec 32) (p : BitVec 32 × BitVec 32) : BitVec 32 × BitVec 32 := (IntOp.addi p.1 k, IntOp.addi p.2 l)

/-- The state after the twenty rounds, from a counter word to which the key has been added. -/
def cipher (u : ArithUnit) (c : BitVec 32) : BitVec 32 × BitVec 32 :=
  key 466689008#32 5#32 (even u (key 42#32 466689012#32 (odd u (key 0#32 45#32 (even u (key 466689008#32 2#32
    (odd u (key 42#32 466689009#32 (even u (0#32, c))))))))))

/-- The random word: the exclusive-or of the two. -/
def bits (u : ArithUnit) (c : BitVec 32) : BitVec 32 := IntOp.xori (cipher u c).1 (cipher u c).2

/-! ## The unit does not matter -/

theorem round_unit (u v : ArithUnit) {r s : BitVec 32} (hr : r.toNat < 32) (hs : s.toNat < 32) (p : BitVec 32 × BitVec 32) :
    round u r s p = round v r s p := by
  unfold round IntOp.shli IntOp.shrui
  rw [if_pos hr, if_pos hr, if_pos hs, if_pos hs]

theorem even_unit (u v : ArithUnit) (p : BitVec 32 × BitVec 32) : even u p = even v p := by
  unfold even
  rw [round_unit u v (r := 6#32) (by decide) (by decide), round_unit u v (r := 26#32) (by decide) (by decide),
    round_unit u v (r := 15#32) (by decide) (by decide), round_unit u v (r := 13#32) (by decide) (by decide)]

theorem odd_unit (u v : ArithUnit) (p : BitVec 32 × BitVec 32) : odd u p = odd v p := by
  unfold odd
  rw [round_unit u v (r := 24#32) (by decide) (by decide), round_unit u v (r := 16#32) (by decide) (by decide),
    round_unit u v (r := 29#32) (by decide) (by decide), round_unit u v (r := 17#32) (by decide) (by decide)]

/-- The random word is the same on every unit. -/
theorem bits_unit (u v : ArithUnit) (c : BitVec 32) : bits u c = bits v c := by
  have he : ∀ p, even u p = even v p := even_unit u v
  have ho : ∀ p, odd u p = odd v p := odd_unit u v
  unfold bits cipher
  simp only [he, ho]

/-! ## The kernel's -/

/-- The addition of two words of the key and of the group's number, as the kernel does it. -/
def keyTwice (k a b : BitVec 32) (p : BitVec 32 × BitVec 32) : BitVec 32 × BitVec 32 :=
  (IntOp.addi p.1 k, IntOp.addi (IntOp.addi p.2 a) b)

theorem keyTwice_eq (k a b : BitVec 32) (p : BitVec 32 × BitVec 32) : keyTwice k a b p = key k (a + b) p :=
  Prod.ext rfl (BitVec.add_assoc _ _ _)

/-- The first group with its first addition left out: the first word of the key is zero. -/
def first (u : ArithUnit) (c : BitVec 32) : BitVec 32 × BitVec 32 :=
  round u 6#32 26#32 (round u 26#32 6#32 (round u 15#32 17#32
    (c, IntOp.xori (IntOp.ori (IntOp.shli u c 13#32) (IntOp.shrui u c 19#32)) c)))

theorem first_eq (u : ArithUnit) (c : BitVec 32) : first u c = even u (0#32, c) := by
  have h : IntOp.addi 0#32 c = c := BitVec.zero_add c
  unfold first even
  rw [show round u 13#32 19#32 (0#32, c) = (c, IntOp.xori (IntOp.ori (IntOp.shli u c 13#32) (IntOp.shrui u c 19#32)) c) from by
    unfold round
    rw [h]]

/-- The state the kernel holds after the last group, less the last word of the key and the last group's number. -/
def inner (c : BitVec 32) : BitVec 32 × BitVec 32 :=
  keyTwice 466689008#32 0#32 5#32 (even .vector (keyTwice 42#32 466689008#32 4#32 (odd .vector (keyTwice 0#32 42#32 3#32
    (even .vector (keyTwice 466689008#32 0#32 2#32 (odd .vector (keyTwice 42#32 466689008#32 1#32 (first .vector c)))))))))

theorem inner_eq (c : BitVec 32) : inner c = cipher .vector c := by
  unfold inner cipher
  simp only [keyTwice_eq, first_eq]
  rfl

end Cert.Proof

namespace Cert.Proof.KernelIdeal

open Idealize.ShloMosaic Cert.KernelIdeal Cert.KernelIdeal.Gen

/-- The first of the two words the kernel's last group leaves at a place. -/
theorem lastX0_apply (i : grid0.Coords) (y : S4x1176x128.Idx) : lastX0 i y = (inner (k0_pay3 i y)).1 := by
  sl_kernel_rfl

/-- The second, with the last group's number added. -/
theorem lastX1_apply (i : grid0.Coords) (y : S4x1176x128.Idx) :
    IntOp.addi (lastX1 i y) 5#32 = (inner (k0_pay3 i y)).2 := by
  sl_kernel_rfl

end Cert.Proof.KernelIdeal

end
-- ==== Proof.Noise.lean ====
/- The normal number a random word stands for, over the extended reals: the word's top bits as a number of [0, 1), that number
   stretched to the open interval from -1 to 1, and the inverse of the error function there, by the two polynomials in
   -log(1 - u²). The kernel's vectors (KernelIdeal) hold it. The number |u| is less than one. -/
module

public import proofs.«01_k».proof.Proof.Cipher
public import Idealize.ShloMosaic.Lib.IdealHost

@[expose] public section

noncomputable section

namespace Cert.Proof

open Idealize.ShloMosaic

/-- The least number of the interval, as its pattern denotes it: -1 + 2⁻²⁴. -/
def low : EReal := Ideal.ofBits .f32 0xBF7FFFFF#32

/-- The interval's width. -/
def width : EReal := ((33554431 / 16777216 : ℝ) : EReal)

/-- The pattern of a number of [1, 2) whose fraction is the word's top 23 bits. -/
def mantissa (w : BitVec 32) : BitVec 32 := IntOp.ori (IntOp.shrui .vector w 9#32) 1065353216#32

/-- The word as a number strictly between -1 and 1. -/
def uniform (w : BitVec 32) : EReal :=
  max low ((Ideal.ofBits .f32 (mantissa w) - Ideal.ofBits .f32 0x3F800000#32) * width + low)

/-- -log(1 - u²). -/
def logTerm (u : EReal) : EReal := -Ideal.log1p (-(u * u))

/-- Whether the first of the two polynomials is the one to take. -/
def isSmall (l : EReal) : BitVec 1 := Ideal.cmp .olt l (Ideal.ofBits .f32 0x40A00000#32)

/-- What the polynomial is taken at. -/
def place (l : EReal) : EReal :=
  Scalar.select (isSmall l) (l - Ideal.ofBits .f32 0x40200000#32) (Ideal.sqrt l - Ideal.ofBits .f32 0x40400000#32)

/-- A coefficient: the first polynomial's or the second's. -/
def coef (m : BitVec 1) (a b : BitVec 32) : EReal := Scalar.select m (Ideal.ofBits .f32 a) (Ideal.ofBits .f32 b)

/-- The polynomial of degree eight `m` picks, at `v`. -/
def poly (m : BitVec 1) (v : EReal) : EReal :=
  coef m 0x3FC02E2F#32 0x40354F7E#32 + (
    coef m 0x3E7C8F63#32 0x3F8036DB#32 + (
    coef m 0xBB88E4EF#32 0x3C1AA57E#32 + (
    coef m 0xBAA45408#32 0xBBF9C5D7#32 + (
    coef m 0x396532DB#32 0x3BBC127B#32 + (
    coef m 0xB6935AC1#32 0xBB70BDE7#32 + (
    coef m 0xB66C7357#32 0x3AB0DC72#32 + (
    coef m 0x34B84B36#32 0x38D3B56B#32 + (
    coef m 0x32F16588#32 0xB951F09B#32) * v) * v) * v) * v) * v) * v) * v) * v

/-- The inverse of the error function at `u` over `u`. -/
def slope (u : EReal) : EReal := poly (isSmall (logTerm u)) (place (logTerm u))

/-- The normal number of a random word. -/
def normal (w : BitVec 32) : EReal := Ideal.ofBits .f32 0x3FB504F3#32 * (slope (uniform w) * uniform w)

end Cert.Proof

namespace Cert.Proof.KernelIdeal

open Idealize.ShloMosaic Cert.KernelIdeal Cert.KernelIdeal.Gen

/-- The name stands for the width. -/
theorem named_width : (Named.named κ "width" (φ := .f32) 0x40000000#32 : Ideal .f32) = width := rfl

/-- The kernel's uniform number at a place. -/
theorem uniform_apply (a b : IVec S4x1176x128 32) (y : S4x1176x128.Idx) :
    k0_pay47 (F := Ideal) a b 5#32 y = uniform (IntOp.xori (a y) (IntOp.addi (b y) 5#32)) := by
  sl_kernel_rfl

/-- The kernel's logarithm there: it subtracts from zero where `logTerm` negates. -/
theorem logTerm_apply (a b : IVec S4x1176x128 32) (y : S4x1176x128.Idx) :
    k0_pay48 (F := Ideal) a b 5#32 y = logTerm (k0_pay47 (F := Ideal) a b 5#32 y) := by
  have h : k0_pay48 (F := Ideal) a b 5#32 y = Ideal.ofBits .f32 0x00000000#32 - Ideal.log1p
      (Ideal.ofBits .f32 0x00000000#32 - k0_pay47 (F := Ideal) a b 5#32 y * k0_pay47 (F := Ideal) a b 5#32 y) := by
    sl_kernel_rfl
  rw [h, Ideal.ofBits_zero_f32, zero_sub, zero_sub]
  rfl

/-- The choice of polynomial. -/
theorem isSmall_apply (a b : IVec S4x1176x128 32) (y : S4x1176x128.Idx) :
    k0_pay49 (F := Ideal) a b 5#32 y = isSmall (k0_pay48 (F := Ideal) a b 5#32 y) := by
  sl_kernel_rfl

/-- What the polynomial is taken at. -/
theorem place_apply (a b : IVec S4x1176x128 32) (y : S4x1176x128.Idx) :
    k0_pay50 (F := Ideal) a b 5#32 y = place (k0_pay48 (F := Ideal) a b 5#32 y) := by
  sl_kernel_rfl

/-- The polynomial, the multiplication by `u` and the scaling by √2. -/
theorem poly_apply (a b : IVec S4x1176x128 32) (y : S4x1176x128.Idx) :
    k0_pay52 (k0_pay47 (F := Ideal) a b 5#32) (k0_pay49 (F := Ideal) a b 5#32) (k0_pay50 (F := Ideal) a b 5#32)
        (k0_pay51 (F := Ideal) a b 5#32) y
      = Ideal.ofBits .f32 0x3FB504F3#32 * (poly (k0_pay49 (F := Ideal) a b 5#32 y) (k0_pay50 (F := Ideal) a b 5#32 y)
          * k0_pay47 (F := Ideal) a b 5#32 y) := by
  sl_kernel_rfl

/-- A place of the kernel's block of noise is the normal number of the counter's random word. -/
theorem noiseBlk_apply (i : grid0.Coords) (y : S4x1176x128.Idx) :
    noiseBlk (F := Ideal) i y = normal (bits .vector (k0_pay3 i y)) := by
  have hw : IntOp.xori (lastX0 i y) (IntOp.addi (lastX1 i y) 5#32) = bits .vector (k0_pay3 i y) := by
    rw [lastX0_apply, lastX1_apply, inner_eq]
    rfl
  refine (poly_apply (lastX0 i) (lastX1 i) y).trans ?_
  rw [isSmall_apply, place_apply, logTerm_apply, uniform_apply, hw]
  rfl

end Cert.Proof.KernelIdeal

namespace Cert.Proof

open Idealize.ShloMosaic

/-! ## The uniform number lies strictly between -1 and 1 -/

theorem low_eq : low = ((-16777215 / 16777216 : ℝ) : EReal) := by
  simp [low, Ideal.ofBits, Ideal.ieee, -EReal.coe_mul, -EReal.coe_neg]
  norm_num

/-- The greater of two real numbers is their greater as extended reals. -/
theorem coe_greater (a b : ℝ) : ((max a b : ℝ) : EReal) = max (a : EReal) (b : EReal) := EReal.coe_strictMono.monotone.map_max

/-- The pattern `mantissa` makes denotes one plus a fraction of 2²³. -/
theorem mantissa_eq (w : BitVec 32) : ∃ n : ℕ, n < 8388608 ∧
    Ideal.ofBits .f32 (mantissa w) = ((1 + n / 8388608 : ℝ) : EReal) := by
  have hm : mantissa w = (w >>> 9) ||| 1065353216#32 := rfl
  have h0 : (mantissa w).extractLsb' 31 1 = 0#1 := by
    rw [hm]
    ext i hi
    have : i = 0 := by omega
    subst this
    simp
  have h1 : (mantissa w).extractLsb' 23 8 = 127#8 := by
    rw [hm]
    ext i hi
    interval_cases i <;> simp
  refine ⟨((mantissa w).extractLsb' 0 23).toNat, ((mantissa w).extractLsb' 0 23).isLt, ?_⟩
  show Ideal.ieee 8 23 (mantissa w) = _
  unfold Ideal.ieee
  simp only [Nat.reduceAdd, h0, h1]
  rw [if_neg (by decide), if_neg (by decide)]
  congr 1
  generalize ((mantissa w).extractLsb' 0 23).toNat = n
  have hs : ((0#1 == 1#1) = true) = False := by decide
  have he : (((127#8).toNat : ℤ) - (2 ^ (8 - 1) - 1) - (23 : ℕ)) = -23 := by decide
  rw [he]
  simp only [hs, if_false]
  push_cast
  rw [zpow_neg]
  norm_num
  ring

/-- The uniform number is a real number between -1 and 1, neither of the two. -/
theorem uniform_bounds (w : BitVec 32) : ∃ x : ℝ, -1 < x ∧ x < 1 ∧ uniform w = (x : EReal) := by
  obtain ⟨n, hn, hm⟩ := mantissa_eq w
  have hn' : (n : ℝ) ≤ 8388607 := by exact_mod_cast Nat.le_of_lt_succ hn
  have h0 : (0 : ℝ) ≤ n := Nat.cast_nonneg n
  refine ⟨max (-16777215 / 16777216) ((1 + n / 8388608 - 1) * (33554431 / 16777216) + -16777215 / 16777216), ?_, ?_, ?_⟩
  · exact lt_max_of_lt_left (by norm_num)
  · refine max_lt (by norm_num) ?_
    linarith
  · unfold uniform width
    rw [low_eq, hm, Ideal.ofBits_one_f32, ← EReal.coe_one, ← EReal.coe_sub, ← EReal.coe_mul, ← EReal.coe_add, ← coe_greater]

/-- Its absolute value is not one. -/
theorem abs_uniform_ne (w : BitVec 32) : max (uniform w) (-uniform w) ≠ 1 := by
  obtain ⟨x, h1, h2, hx⟩ := uniform_bounds w
  rw [hx, ← EReal.coe_neg, ← coe_greater, ← EReal.coe_one, Ne, EReal.coe_eq_coe_iff]
  exact (max_lt h2 (by linarith)).ne

end Cert.Proof

end
-- ==== Proof.NoiseReference.lean ====
/- What the reference's noise holds at a place: the normal number of the random word of the counter word there. The reference's
   separate answer for |u| = 1 is never taken, since |u| < 1. -/
module

public import proofs.«01_k».proof.Proof.Noise
public import proofs.«01_k».proof.Proof.Gen.ReferenceIdeal.Read

@[expose] public section

noncomputable section

namespace Cert.Proof.ReferenceIdeal

open Idealize.ShloMosaic Cert.ReferenceIdeal Cert.ReferenceIdeal.Gen Cert.ReferenceIdeal.Read

/-- The reference's random word at a place, from its counter word there. -/
theorem word_apply (j : S128x3x224x224.Idx) :
    val_main_v167 (F := Ideal) j = bits .host (val_main_v6 (F := Ideal) j) := by
  sl_kernel_rfl

/-- The reference's width, the difference of the interval's ends, is the number the kernel's constant is named by. -/
theorem width_eq : Ideal.ofBits .f32 0x3F800000#32 - Ideal.ofBits .f32 0xBF7FFFFF#32 = width := by
  rw [show Ideal.ofBits .f32 0xBF7FFFFF#32 = low from rfl, low_eq, Ideal.ofBits_one_f32, ← EReal.coe_one, ← EReal.coe_sub]
  unfold width
  norm_num

/-- The host's shift makes the same pattern as the vector unit's. -/
theorem host_mantissa (w : BitVec 32) : IntOp.ori (IntOp.shrui .host w 9#32) 1065353216#32 = mantissa w := rfl

/-- The reference's uniform number at a place. -/
theorem uniform_apply (j : S128x3x224x224.Idx) :
    val_main_v181 (F := Ideal) j = uniform (val_main_v167 (F := Ideal) j) := by
  simp -implicitDefEqProofs only [val_main_c_52_apply, val_main_v168_apply, val_main_v169_apply, val_main_c_53_apply,
    val_main_v170_apply, val_main_v171_apply, val_main_v172_apply, val_main_cst_apply, val_main_v173_apply,
    val_main_v174_apply, val_main_cst_54_apply, val_main_cst_55_apply, val_main_v175_apply, val_main_v176_apply,
    val_main_v177_apply, val_main_cst_56_apply, val_main_v178_apply, val_main_v179_apply, val_main_cst_57_apply,
    val_main_v180_apply, val_main_v181_apply, host_mantissa, Ideal.subf_def, Ideal.mulf_def, Ideal.addf_def,
    Ideal.maximumf_def, Ideal.ofBits_def, width_eq]
  generalize val_main_v167 (F := Ideal) j = w
  rfl

/-- The reference's logarithm there. -/
theorem logTerm_apply (j : S128x3x224x224.Idx) :
    val_main_v185 (F := Ideal) j = logTerm (val_main_v181 (F := Ideal) j) := by
  rw [val_main_v185_apply, val_main_v184_apply, val_main_v183_apply, val_main_v182_apply]
  generalize val_main_v181 (F := Ideal) j = u
  rw [Ideal.hostNegf_def, Ideal.hostNegf_def, Ideal.negf_def, Ideal.negf_def, Ideal.mulf_def, Ideal.hostUnary_log1p_def]
  rfl

/-- Its choice of polynomial. -/
theorem isSmall_apply (j : S128x3x224x224.Idx) :
    val_main_v187 (F := Ideal) j = isSmall (val_main_v185 (F := Ideal) j) := by
  rw [val_main_v187_apply, val_main_v186_apply, val_main_cst_58_apply]
  generalize val_main_v185 (F := Ideal) j = l
  rfl

/-- What the polynomial is taken at. -/
theorem place_apply (j : S128x3x224x224.Idx) :
    val_main_v193 (F := Ideal) j = place (val_main_v185 (F := Ideal) j) := by
  simp -implicitDefEqProofs only [val_main_cst_59_apply, val_main_v188_apply, val_main_v189_apply, val_main_v190_apply,
    val_main_cst_60_apply, val_main_v191_apply, val_main_v192_apply, val_main_v193_apply, isSmall_apply, Ideal.subf_def,
    Ideal.ofBits_def, Ideal.hostUnary_sqrt_def]
  generalize val_main_v185 (F := Ideal) j = l
  rfl

/-- Its polynomial there. -/
theorem poly_apply (j : S128x3x224x224.Idx) :
    val_main_v227 (F := Ideal) j = poly (val_main_v187 (F := Ideal) j) (val_main_v193 (F := Ideal) j) := by
  simp -implicitDefEqProofs only [val_main_cst_61_apply, val_main_cst_62_apply, val_main_call1_v0_apply,
    val_main_call1_v1_apply, val_main_v194_apply, val_main_cst_63_apply, val_main_cst_64_apply, val_main_call2_v0_apply,
    val_main_call2_v1_apply, val_main_v195_apply, val_main_v196_apply, val_main_v197_apply, val_main_v198_apply,
    val_main_v199_apply, val_main_cst_65_apply, val_main_cst_66_apply, val_main_call3_v0_apply, val_main_call3_v1_apply,
    val_main_v200_apply, val_main_v201_apply, val_main_v202_apply, val_main_v203_apply, val_main_cst_67_apply,
    val_main_cst_68_apply, val_main_call4_v0_apply, val_main_call4_v1_apply, val_main_v204_apply, val_main_v205_apply,
    val_main_v206_apply, val_main_v207_apply, val_main_cst_69_apply, val_main_cst_70_apply, val_main_call5_v0_apply,
    val_main_call5_v1_apply, val_main_v208_apply, val_main_v209_apply, val_main_v210_apply, val_main_v211_apply,
    val_main_cst_71_apply, val_main_cst_72_apply, val_main_call6_v0_apply, val_main_call6_v1_apply, val_main_v212_apply,
    val_main_v213_apply, val_main_v214_apply, val_main_v215_apply, val_main_cst_73_apply, val_main_cst_74_apply,
    val_main_call7_v0_apply, val_main_call7_v1_apply, val_main_v216_apply, val_main_v217_apply, val_main_v218_apply,
    val_main_v219_apply, val_main_cst_75_apply, val_main_cst_76_apply, val_main_call8_v0_apply, val_main_call8_v1_apply,
    val_main_v220_apply, val_main_v221_apply, val_main_v222_apply, val_main_v223_apply, val_main_cst_77_apply,
    val_main_cst_78_apply, val_main_call9_v0_apply, val_main_call9_v1_apply, val_main_v224_apply, val_main_v225_apply,
    val_main_v226_apply, val_main_v227_apply, Ideal.addf_def, Ideal.mulf_def, Ideal.ofBits_def]
  generalize val_main_v187 (F := Ideal) j = m
  generalize val_main_v193 (F := Ideal) j = v
  rfl

/-- What it makes of the polynomial: at |u| = 1 an infinity of `u`'s sign, elsewhere the product with `u`; then the scaling by √2. -/
theorem scaled_apply (j : S128x3x224x224.Idx) :
    val_main_v236 (F := Ideal) j = Ideal.ofBits .f32 0x3FB504F3#32 * Scalar.select
      (Ideal.cmp .oeq (max (val_main_v181 (F := Ideal) j) (-val_main_v181 (F := Ideal) j)) (Ideal.ofBits .f32 0x3F800000#32))
      (val_main_v181 (F := Ideal) j * Ideal.ofBits .f32 0x7F800000#32)
      (val_main_v227 (F := Ideal) j * val_main_v181 (F := Ideal) j) := by
  simp -implicitDefEqProofs only [val_main_v228_apply, val_main_cst_79_apply, val_main_v229_apply, val_main_v230_apply,
    val_main_cst_80_apply, val_main_v231_apply, val_main_v232_apply, val_main_v233_apply, val_main_v234_apply,
    val_main_cst_81_apply, val_main_v235_apply, val_main_v236_apply, Ideal.hostAbsf_def, Ideal.mulf_def, Ideal.ofBits_def]
  generalize val_main_v181 (F := Ideal) j = u
  generalize val_main_v227 (F := Ideal) j = p
  rfl

/-- A choice by a mask that is off. -/
theorem not_taken (a b : EReal) : Scalar.select 0#1 a b = b := if_neg (by decide)

/-- A place of the reference's noise is the normal number of the counter's random word. -/
theorem noise_apply (j : S128x3x224x224.Idx) :
    val_main_v236 (F := Ideal) j = normal (bits .host (val_main_v6 (F := Ideal) j)) := by
  rw [scaled_apply, poly_apply, isSmall_apply, place_apply, logTerm_apply, uniform_apply, word_apply]
  generalize bits .host (val_main_v6 (F := Ideal) j) = w
  have h : Ideal.cmp .oeq (max (uniform w) (-uniform w)) (Ideal.ofBits .f32 0x3F800000#32) = 0#1 := by
    rw [Ideal.ofBits_one_f32]
    show BitVec.ofBool (decide (max (uniform w) (-uniform w) = 1)) = 0#1
    rw [decide_eq_false (abs_uniform_ne w)]
    rfl
  rw [h, not_taken]
  unfold normal slope
  with_reducible rfl

end Cert.Proof.ReferenceIdeal

end
-- ==== Proof.TableReference.lean ====
/- What the reference reads of a table: the row a time step names. It counts a negative step from the table's end and answers an
   out-of-range one with a constant; steps below a thousand meet neither. -/
module

public import proofs.«01_k».proof.Proof.BlockIdeal
public import proofs.«01_k».proof.Proof.Steps
public import proofs.«01_k».proof.Proof.Gen.ReferenceIdeal.Read
public import Idealize.ShloMosaic.Lib.ReduceAll
public import Idealize.ShloMosaic.Lib.StableHlo.Predicate

@[expose] public section

noncomputable section

namespace Cert.Proof.ReferenceIdeal

open Idealize.ShloMosaic Cert.ReferenceIdeal Cert.ReferenceIdeal.Gen Cert.ReferenceIdeal.Read
open Cert.Proof.KernelIdeal (rowIdx Words)

variable {F : FTy → Type} [FloatOps F]

/-- A word below a thousand is not negative as a signed word, … -/
theorem not_neg {w : BitVec 32} (h : w.toNat < 1000) : IntOp.cmpi .slt w 0#32 = 0#1 := by
  have : w.slt 0#32 = false := by
    rw [BitVec.slt, decide_eq_false_iff_not, BitVec.toInt, BitVec.toInt, BitVec.toNat_ofNat]
    omega
  show BitVec.ofBool (w.slt 0#32) = 0#1
  rw [this]
  rfl

/-- … it is at least zero, … -/
theorem nonneg {w : BitVec 32} (h : w.toNat < 1000) : IntOp.cmpi .sge w 0#32 = 1#1 := by
  have : (0#32).sle w = true := by
    rw [BitVec.sle, decide_eq_true_eq, BitVec.toInt, BitVec.toInt, BitVec.toNat_ofNat]
    omega
  show BitVec.ofBool ((0#32).sle w) = 1#1
  rw [this]
  rfl

/-- … at most 999, … -/
theorem le_last {w : BitVec 32} (h : w.toNat < 1000) : IntOp.cmpi .sle w 999#32 = 1#1 := by
  have : w.sle 999#32 = true := by
    rw [BitVec.sle, decide_eq_true_eq, BitVec.toInt, BitVec.toInt, BitVec.toNat_ofNat]
    omega
  show BitVec.ofBool (w.sle 999#32) = 1#1
  rw [this]
  rfl

/-- … and is its own signed value. -/
theorem signed_eq {w : BitVec 32} (h : w.toNat < 1000) : w.toInt.toNat = w.toNat := by
  rw [BitVec.toInt]
  omega

variable (t : IVec S128 32) (ht : Words t)

include ht

/-- The step the reference looks up is the step it is given. -/
theorem step_apply (i : S128.Idx) : val_main_call11_v4 (F := F) t i = t i := by
  rw [val_main_call11_v4_apply, val_main_call11_v1_apply, val_main_call11_v0_apply, val_main_call11_c_apply, not_neg (ht i)]
  exact if_neg (by decide)

/-- Its range test passes. -/
theorem inRange_apply (i : S128x1.Idx) : val_main_call11_v11 (F := F) t i = 1#1 := by
  rw [val_main_call11_v11_apply, val_main_call11_v7_apply, val_main_call11_v10_apply, val_main_call11_v5_apply, step_apply t ht,
    val_main_call11_v6_apply, val_main_call11_c_2_apply, val_main_call11_v9_apply, val_main_call11_v8_apply,
    val_main_call11_c_1_apply, nonneg (ht _), le_last (ht _)]
  rfl

/-- The row it gathers is the one the step names. -/
theorem gathered_apply (x : FVec F S1000 .f32) (i : S128.Idx) : val_main_call11_v13 (F := F) t x i = x (rowIdx (t i)) := by
  have hi : i = Shape.Idx.ofFin (i 0) := by
    funext a
    obtain rfl : a = 0 := Subsingleton.elim _ _
    rfl
  have hstep : val_main_call11_v5 (F := F) t (StableHlo.Predicate.ixP (i 0)) = t i := by
    rw [val_main_call11_v5_apply, step_apply t ht]
    refine congrArg t (funext fun a => ?_)
    obtain rfl : a = 0 := Subsingleton.elim _ _
    rfl
  unfold val_main_call11_v13
  refine (congrArg (Host.gather gather_S1000_S128x1_S128_n_0_n_n_0_1_1 x (val_main_call11_v5 (F := F) t)) hi).trans ?_
  refine (StableHlo.Predicate.gather_take gather_S1000_S128x1_S128_n_0_n_n_0_1_1 rfl rfl rfl rfl x _ (i 0) (by decide)).trans ?_
  refine congrArg x (funext fun a => ?_)
  obtain rfl : a = 0 := Subsingleton.elim _ _
  refine Fin.ext ?_
  have h := ht i
  show min (val_main_call11_v5 (F := F) t (StableHlo.Predicate.ixP (i 0))).toInt.toNat (1000 - 1) = (t i).toNat % 1000
  rw [hstep, signed_eq h]
  omega

/-- What it reads of the first table for image `i`. -/
theorem first_apply (x : FVec F S1000 .f32) (i : S128.Idx) : val_main_v237 (F := F) t x i = x (rowIdx (t i)) := by
  have hr : val_main_call11_v12 (F := F) t i = 1#1 :=
    Host.reduce_andi_one _ _ _ _ i (val_main_call11_c_3_apply _) (inRange_apply t ht)
  rw [val_main_v237_apply, hr, gathered_apply t ht]
  exact if_pos rfl

/-- What it reads of the second. -/
theorem second_apply (x : FVec F S1000 .f32) (i : S128.Idx) : val_main_v239 (F := F) t x i = x (rowIdx (t i)) :=
  first_apply t ht x i

omit ht in
/-- The place in `t` of the time step of the image that `j` is in. -/
def imageIdx (j : S128x3x224x224.Idx) : S128.Idx := fun a => match a with | ⟨0, _⟩ => j 0

/-- A place of the reference's noised images. -/
theorem noised_apply (x0 : FVec F S128x3x224x224 .f32) (x2 x3 : FVec F S1000 .f32) (j : S128x3x224x224.Idx) :
    val_main_v245 (F := F) x0 t x2 x3 j
      = FloatOps.addf (FloatOps.mulf (x2 (rowIdx (t (imageIdx j)))) (x0 j))
          (FloatOps.mulf (x3 (rowIdx (t (imageIdx j)))) (val_main_v236 (F := F) j)) := by
  have h1 : idx_main_v238 (idx_main_v241 j) = imageIdx j := by
    funext a
    obtain rfl : a = 0 := Subsingleton.elim _ _
    refine Fin.ext ?_
    show (((j 0).val * 1 + 0) * 1 + 0) * 1 + 0 = (j 0).val
    omega
  have h2 : idx_main_v240 (idx_main_v243 j) = imageIdx j := h1
  rw [val_main_v245_apply, val_main_v242_apply, val_main_v241_apply, val_main_v238_apply, first_apply t ht, h1,
    val_main_v244_apply, val_main_v243_apply, val_main_v240_apply, second_apply t ht, h2]

end Cert.Proof.ReferenceIdeal

end
-- ==== Proof.Equation.lean ====
/- The equation: read as extended reals, the two arrays that the program `KernelIdeal` leaves are the reference's, place by place.
   The noise, because the two count the numbers alike (Counter.lean) and turn a counter into a normal number alike (Cipher.lean,
   Noise.lean, NoiseReference.lean); the noised images, because they are then the same sum of the same two products. -/
module

public import proofs.«01_k».proof.Proof.ArraysIdeal
public import proofs.«01_k».proof.Proof.Counter
public import proofs.«01_k».proof.Proof.NoiseReference
public import proofs.«01_k».proof.Proof.TableReference

@[expose] public section

noncomputable section

namespace Cert.Proof

open Idealize.ShloMosaic Idealize.ShloMosaic.TcCoe
open Cert.Proof.KernelIdeal Cert.ReferenceIdeal.Read
open Cert.KernelIdeal.Gen (V V_main_arg1 V_main_arg2 V_main_arg3)

/-- The kernel's counter of a place of the images is the reference's. -/
theorem counter_eq (j : Cert.ReferenceIdeal.S128x3x224x224.Idx) :
    Cert.KernelIdeal.Gen.k0_pay3 (pointOf (flat j)) (placeOf (flat j)) = val_main_v6 (F := Ideal) j := by
  rw [KernelIdeal.counter_apply, ReferenceIdeal.counter_apply]
  refine congrArg counter ?_
  show (4 * ((j 0).val / 4) + (j 0).val % 4) * 150528
      + (((j 1).val * 224 + (j 2).val) * 224 + (j 3).val) / 128 * 128
      + (((j 1).val * 224 + (j 2).val) * 224 + (j 3).val) % 128
    = (((j 0).val * 3 + (j 1).val) * 224 + (j 2).val) * 224 + (j 3).val
  omega

/-- The kernel's noise is the reference's. -/
theorem noise_eq (j : Cert.ReferenceIdeal.S128x3x224x224.Idx) :
    noiseArr (F := Ideal) (flat j) = val_main_v236 (F := Ideal) j := by
  unfold noiseArr
  rw [noiseBlk_apply, ReferenceIdeal.noise_apply, counter_eq]
  exact congrArg normal (bits_unit _ _ _)

variable (m : (ℓ : Loc Cert.KernelIdeal.nD Cert.KernelIdeal.τ Cert.KernelIdeal.sig) → Buf (Elt Ideal) ℓ)

/-- The kernel's noised images are the reference's of the same arguments, where the time steps name rows of the tables. -/
theorem noised_eq (hS : Steps m) (c : Dev Cert.KernelIdeal.nD) (j : Cert.ReferenceIdeal.S128x3x224x224.Idx) :
    noisedArr (V m c Cert.KernelIdeal.main_arg1) (V m c Cert.KernelIdeal.main_arg2) (V m c Cert.KernelIdeal.main_arg3)
        (V m c Cert.KernelIdeal.main_v0) (flat j)
      = val_main_v245 (F := Ideal) (m (c.tc.loc Cert.KernelIdeal.main_arg0)) (m (c.tc.loc Cert.KernelIdeal.main_arg1))
          (m (c.tc.loc Cert.KernelIdeal.main_arg2)) (m (c.tc.loc Cert.KernelIdeal.main_arg3)) j := by
  have himage : imageOf (flat j) = ReferenceIdeal.imageIdx j := by
    funext a
    obtain rfl : a = 0 := Subsingleton.elim (α := Fin 1) _ _
    rfl
  refine Eq.trans ?_ (ReferenceIdeal.noised_apply (F := Ideal) _ (hS c) (m (c.tc.loc Cert.KernelIdeal.main_arg0))
    (m (c.tc.loc Cert.KernelIdeal.main_arg2)) (m (c.tc.loc Cert.KernelIdeal.main_arg3)) j).symm
  unfold noisedArr
  rw [images_flat, noise_eq, himage, V_main_arg1, V_main_arg2, V_main_arg3]

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_in_table
public import proofs.«01_k».proof.Proof.Steps
public import proofs.«01_k».proof.Proof.FrameKernel
public import proofs.«01_k».proof.Proof.FrameIdeal
public import proofs.«01_k».proof.Proof.ArraysIdeal
public import proofs.«01_k».proof.Proof.Equation
public import Idealize.ShloMosaic.Adequacy
public import Idealize.ShloMosaic.Init

@[expose] public section

noncomputable section

namespace Cert.Proof

open Idealize.ShloMosaic Idealize.SL.Sem

/-- `Kernel` runs, keeps its arguments and ends quiescent: `Kernel.frame_run`, its time steps in range by the precondition. -/
theorem frame_kernel : Cert.quiescent_Kernel := fun m ρ h =>
  Cert.Proof.Kernel.frame_run m ρ fun c y => step_lt (h c) y

/-- `KernelIdeal` runs, keeps its arguments and ends quiescent: `KernelIdeal.frame_run`, likewise. -/
theorem frame_ideal : Cert.quiescent_KernelIdeal := fun m ρ h =>
  Cert.Proof.KernelIdeal.frame_run m ρ fun c y => step_lt (h c) y

/-- `ReferenceIdeal` runs, keeps its arguments and ends quiescent: its generated run, and it declares no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The one constant that `KernelIdeal` names is the kernel's 2.0 and reads as the constant `κ` gives it. -/
theorem preserves : Cert.preserves_Kernel_KernelIdeal :=
  IdealRules.named_const.statement Cert.KernelIdeal.κ "width" .f32 0x40000000#32 ((33554431 / 16777216 : ℝ) : EReal) rfl

/-- `KernelIdeal` ends with what `ReferenceIdeal` ends with, in both results: the kernel's run (`KernelIdeal.results_run`) by the
    equation of the two (`noised_eq`, `noise_eq`), the reference's by its generated run, read at its two results. -/
theorem algebraic : Cert.algebraic_KernelIdeal_ReferenceIdeal := by
  intro m g m' g' hpre hargs
  have hS : Cert.Proof.KernelIdeal.Steps m := fun c y => step_lt (hpre c) y
  refine ⟨fun c => Cert.ReferenceIdeal.Read.val_main_v245 (F := Ideal) (m (c.tc.loc Cert.KernelIdeal.main_arg0))
      (m (c.tc.loc Cert.KernelIdeal.main_arg1)) (m (c.tc.loc Cert.KernelIdeal.main_arg2)) (m (c.tc.loc Cert.KernelIdeal.main_arg3)),
    fun _ => Cert.ReferenceIdeal.Read.val_main_v236 (F := Ideal), ?_, ?_⟩
  · refine (θ_run Cert.KernelIdeal.defs _ _).mono (fun r h c => ⟨?_, ?_, h.2 c⟩)
      (θ_run_and (Cert.Proof.KernelIdeal.results_run m g hS) (Cert.Proof.KernelIdeal.args_kept m g hS))
    · exact funext fun j => ((h.1 c).1 j).trans (noised_eq m hS c j)
    · exact funext fun j => ((h.1 c).2 j).trans (noise_eq j)
  · refine (θ_run Cert.ReferenceIdeal.defs _ _).mono (fun r h c => ⟨?_, ?_, (h c).2.2⟩)
      (Cert.ReferenceIdeal.Value.run (F := Ideal) m' g')
    · obtain ⟨h0, h1, h2, h3⟩ := hargs c
      beta_reduce
      rw [← h0, ← h1, ← h2, ← h3]
      exact (h c).1.trans (Cert.ReferenceIdeal.Read.val_main_v245_eq (StableHlo.launchContents m' c))
    · exact (h c).2.1.trans (Cert.ReferenceIdeal.Read.val_main_v236_eq (StableHlo.launchContents m' c))

theorem claim : Cert.Claim := ⟨Cert.Kernel.Gen.facts, Cert.KernelIdeal.Gen.facts, Cert.ReferenceIdeal.Gen.facts, Cert.Pre_in_table.Gen.facts,
  frame_kernel, frame_ideal, frame_reference, preserves, algebraic⟩

end Cert.Proof

end
